-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_increasing [hPre_increasing : Cert.Pre_increasing.Facts] (m : (ℓ : Loc Cert.KernelIdeal.nD Cert.KernelIdeal.τ Cert.KernelIdeal.sig) → Buf (Elt Ideal) ℓ) : Prop :=
  ∀ c : Dev Cert.KernelIdeal.nD,
    (Cert.Pre_increasing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_increasing [hPre_increasing : Cert.Pre_increasing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_increasing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_increasing [hKernelIdeal : Cert.KernelIdeal.Facts] [hPre_increasing : Cert.Pre_increasing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_increasing m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_increasing [hReferenceIdeal : Cert.ReferenceIdeal.Facts] [hPre_increasing : Cert.Pre_increasing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_increasing m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_increasing [hKernelIdeal : Cert.KernelIdeal.Facts] [hReferenceIdeal : Cert.ReferenceIdeal.Facts] [hPre_increasing : Cert.Pre_increasing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_increasing m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_indices)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_indices) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_increasing : Cert.Pre_increasing.Facts),
    quiescent_Kernel (hKernel := hKernel)
    ∧ quiescent_KernelIdeal (hKernelIdeal := hKernelIdeal)
    ∧ quiescent_KernelIdeal_pre_increasing (hKernelIdeal := hKernelIdeal) (hPre_increasing := hPre_increasing)
    ∧ quiescent_ReferenceIdeal (hReferenceIdeal := hReferenceIdeal)
    ∧ quiescent_ReferenceIdeal_pre_increasing (hReferenceIdeal := hReferenceIdeal) (hPre_increasing := hPre_increasing)
    ∧ preserves_Kernel_KernelIdeal
    ∧ algebraic_KernelIdeal_ReferenceIdeal_pre_increasing (hKernelIdeal := hKernelIdeal) (hReferenceIdeal := hReferenceIdeal) (hPre_increasing := hPre_increasing)
-- ==== Pre_increasing.lean ====
abbrev S2048x2048 : Shape := ⟨2, ![2048, 2048]⟩
abbrev S2048x1536 : Shape := ⟨2, ![2048, 1536]⟩
abbrev S2048 : Shape := ⟨1, ![2048]⟩
abbrev S1536x4096 : Shape := ⟨2, ![1536, 4096]⟩
abbrev S2048x128 : Shape := ⟨2, ![2048, 128]⟩
abbrev S128 : Shape := ⟨1, ![128]⟩
abbrev S2048x32 : Shape := ⟨2, ![2048, 32]⟩
abbrev S2047 : Shape := ⟨1, ![2047]⟩
abbrev S_ : Shape := ⟨0, ![]⟩

class Facts : Prop where
  slices_S2048_S2047_1 : S2048.Slices ![1] S2047
  slices_S2048_S2047_0 : S2048.Slices ![0] S2047
  reducesTo_S2047_S_d0 : S2047.ReducesTo [0] S_
  h_S_ : 0 < S_.numel

variable [Facts]

def fn {F : FTy → Type} [FloatOps F] (main_arg0 : FVec F S2048x2048 .f32) (main_arg1 : FVec F S2048x1536 .f32) (main_arg2 : IVec S2048 32) (main_arg3 : FVec F S1536x4096 .f32) (main_arg4 : FVec F S2048x128 .f32) (main_arg5 : FVec F S128 .f32) (main_arg6 : FVec F S128 .f32) (main_arg7 : FVec F S2048x32 .f32) : IVec S_ 1 :=
  let main_v0 : IVec S2047 32 := (extractStridedSlice S2047 ![1] · slices_S2048_S2047_1) main_arg2
  let main_v1 : IVec S2047 32 := (extractStridedSlice S2047 ![0] · slices_S2048_S2047_0) main_arg2
  let main_v2 : IVec S2047 1 := cmpi .sgt main_v0 main_v1
  let main_c : IVec S_ 1 := constantI S_ 1 1#1
  let main_v3 : IVec S_ 1 := (fun x v => Host.reduce IntOp.andi x v reducesTo_S2047_S_d0 h_S_) main_v2 main_c
  main_v3
-- ==== Kernel.lean ====
abbrev S2048x2048 : Shape := ⟨2, ![2048, 2048]⟩
abbrev S2048x1536 : Shape := ⟨2, ![2048, 1536]⟩
abbrev S2048 : Shape := ⟨1, ![2048]⟩
abbrev S1536x4096 : Shape := ⟨2, ![1536, 4096]⟩
abbrev S2048x128 : Shape := ⟨2, ![2048, 128]⟩
abbrev S128 : Shape := ⟨1, ![128]⟩
abbrev S2048x32 : Shape := ⟨2, ![2048, 32]⟩
abbrev S2048x4096 : Shape := ⟨2, ![2048, 4096]⟩
abbrev S_ : Shape := ⟨0, ![]⟩
abbrev S2048x1 : Shape := ⟨2, ![2048, 1]⟩
abbrev S1x128 : Shape := ⟨2, ![1, 128]⟩
abbrev S32 : Shape := ⟨1, ![32]⟩
abbrev S1x32 : Shape := ⟨2, ![1, 32]⟩
abbrev S2048x64 : Shape := ⟨2, ![2048, 64]⟩
abbrev S256x4096 : Shape := ⟨2, ![256, 4096]⟩
abbrev S256x2048 : Shape := ⟨2, ![256, 2048]⟩
abbrev S256x128 : Shape := ⟨2, ![256, 128]⟩
abbrev S256x4064 : Shape := ⟨2, ![256, 4064]⟩
abbrev S256x32 : Shape := ⟨2, ![256, 32]⟩
abbrev S2048x96 : Shape := ⟨2, ![2048, 96]⟩
abbrev S256x1 : Shape := ⟨2, ![256, 1]⟩
abbrev S2048x512 : Shape := ⟨2, ![2048, 512]⟩

abbrev nBuf : Space → Nat
  | .hbm => 73
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x1536, .f32⟩
  | .hbm, ⟨2, _⟩ => ⟨S2048, .i32⟩
  | .hbm, ⟨3, _⟩ => ⟨S1536x4096, .f32⟩
  | .hbm, ⟨4, _⟩ => ⟨S2048x128, .f32⟩
  | .hbm, ⟨5, _⟩ => ⟨S128, .f32⟩
  | .hbm, ⟨6, _⟩ => ⟨S128, .f32⟩
  | .hbm, ⟨7, _⟩ => ⟨S2048x32, .f32⟩
  | .hbm, ⟨8, _⟩ => ⟨S2048x4096, .f32⟩
  | .hbm, ⟨9, _⟩ => ⟨S2048x128, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x128, .f32⟩
  | .hbm, ⟨26, _⟩ => ⟨S2048x128, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x128, .f32⟩
  | .hbm, ⟨32, _⟩ => ⟨S2048x128, .f32⟩
  | .hbm, ⟨33, _⟩ => ⟨S1x128, .f32⟩
  | .hbm, ⟨34, _⟩ => ⟨S2048x128, .f32⟩
  | .hbm, ⟨35, _⟩ => ⟨S2048x128, .f32⟩
  | .hbm, ⟨36, _⟩ => ⟨S1x128, .f32⟩
  | .hbm, ⟨37, _⟩ => ⟨S2048x128, .f32⟩
  | .hbm, ⟨38, _⟩ => ⟨S2048x128, .f32⟩
  | .hbm, ⟨39, _⟩ => ⟨S2048, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S2048x1, .f32⟩
  | .hbm, ⟨57, _⟩ => ⟨S1x32, .f32⟩
  | .hbm, ⟨58, _⟩ => ⟨S2048x32, .f32⟩
  | .hbm, ⟨59, _⟩ => ⟨S2048x32, .f32⟩
  | .hbm, ⟨60, _⟩ => ⟨S2048x32, .f32⟩
  | .hbm, ⟨61, _⟩ => ⟨S2048x32, .f32⟩
  | .hbm, ⟨62, _⟩ => ⟨S2048x32, .f32⟩
  | .hbm, ⟨63, _⟩ => ⟨S_, .f32⟩
  | .hbm, ⟨64, _⟩ => ⟨S2048x64, .f32⟩
  | .hbm, ⟨65, _⟩ => ⟨S_, .f32⟩
  | .hbm, ⟨66, _⟩ => ⟨S2048x64, .f32⟩
  | .hbm, ⟨67, _⟩ => ⟨S2048x128, .f32⟩
  | .hbm, ⟨68, _⟩ => ⟨S2048x32, .f32⟩
  | .hbm, ⟨69, _⟩ => ⟨S2048x128, .f32⟩
  | .hbm, ⟨70, _⟩ => ⟨S2048x2048, .f32⟩
  | .hbm, ⟨71, _⟩ => ⟨S2048x512, .f32⟩
  | .hbm, ⟨72, _⟩ => ⟨S2048x512, .i32⟩
  | .local _ .vmem, ⟨0, _⟩ => ⟨S256x4096, .f32⟩
  | .local _ .vmem, ⟨1, _⟩ => ⟨S256x4096, .f32⟩
  | .local _ .vmem, ⟨2, _⟩ => ⟨S2048x128, .f32⟩
  | .local _ .vmem, ⟨3, _⟩ => ⟨S256x2048, .f32⟩
  | .local _ .vmem, ⟨4, _⟩ => ⟨S256x2048, .f32⟩
  | .local _ .vmem, ⟨5, _⟩ => ⟨S2048x32, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S2048x128, .f32⟩
  | .local _ .vmem, ⟨11, _⟩ => ⟨S2048x128, .f32⟩
  | .local _ .vmem, ⟨12, _⟩ => ⟨S256x2048, .f32⟩
  | .local _ .vmem, ⟨13, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_values : Ref sig .tc := ⟨.hbm, 71, rfl⟩
abbrev main_indices : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2048x2048 : Shape := ⟨2, ![2048, 2048]⟩
abbrev S2048x1536 : Shape := ⟨2, ![2048, 1536]⟩
abbrev S2048 : Shape := ⟨1, ![2048]⟩
abbrev S1536x4096 : Shape := ⟨2, ![1536, 4096]⟩
abbrev S2048x128 : Shape := ⟨2, ![2048, 128]⟩
abbrev S128 : Shape := ⟨1, ![128]⟩
abbrev S2048x32 : Shape := ⟨2, ![2048, 32]⟩
abbrev S2048x4096 : Shape := ⟨2, ![2048, 4096]⟩
abbrev S2048x32x128 : Shape := ⟨3, ![2048, 32, 128]⟩
abbrev S_ : Shape := ⟨0, ![]⟩
abbrev S2048x1 : Shape := ⟨2, ![2048, 1]⟩
abbrev S1x128 : Shape := ⟨2, ![1, 128]⟩
abbrev S32 : Shape := ⟨1, ![32]⟩
abbrev S1x32 : Shape := ⟨2, ![1, 32]⟩
abbrev S2048x32x64 : Shape := ⟨3, ![2048, 32, 64]⟩
abbrev S2048x1x32 : Shape := ⟨3, ![2048, 1, 32]⟩
abbrev S2048x32x32 : Shape := ⟨3, ![2048, 32, 32]⟩
abbrev S2048x64 : Shape := ⟨2, ![2048, 64]⟩
abbrev S32x2048x128 : Shape := ⟨3, ![32, 2048, 128]⟩
abbrev S32x2048 : Shape := ⟨2, ![32, 2048]⟩
abbrev S1x2048x128 : Shape := ⟨3, ![1, 2048, 128]⟩
abbrev S1x2048 : Shape := ⟨2, ![1, 2048]⟩
abbrev S128x2048 : Shape := ⟨2, ![128, 2048]⟩
abbrev S2048x512 : Shape := ⟨2, ![2048, 512]⟩

abbrev nBuf : Space → Nat
  | .hbm => 139
  | .vmem => 0
  | .smem => 0
  | _ => 0

abbrev hbmTy0_0 (i : Nat) : BufTy := match i % 128 with
  | 0 => ⟨S2048x2048, .f32⟩
  | 1 => ⟨S2048x1536, .f32⟩
  | 2 => ⟨S2048, .i32⟩
  | 3 => ⟨S1536x4096, .f32⟩
  | 4 => ⟨S2048x128, .f32⟩
  | 5 => ⟨S128, .f32⟩
  | 6 => ⟨S128, .f32⟩
  | 7 => ⟨S2048x32, .f32⟩
  | 8 => ⟨S2048x4096, .f32⟩
  | 9 => ⟨S2048x32x128, .f32⟩
  | 10 => ⟨S2048x128, .f32⟩
  | 11 => ⟨S_, .f32⟩
  | 12 => ⟨S2048, .f32⟩
  | 13 => ⟨S2048x1, .f32⟩
  | 14 => ⟨S_, .f32⟩
  | 15 => ⟨S2048x1, .f32⟩
  | 16 => ⟨S2048x1, .f32⟩
  | 17 => ⟨S2048x128, .f32⟩
  | 18 => ⟨S2048x128, .f32⟩
  | 19 => ⟨S2048x128, .f32⟩
  | 20 => ⟨S_, .f32⟩
  | 21 => ⟨S2048, .f32⟩
  | 22 => ⟨S2048x1, .f32⟩
  | 23 => ⟨S_, .f32⟩
  | 24 => ⟨S2048x1, .f32⟩
  | 25 => ⟨S2048x1, .f32⟩
  | 26 => ⟨S2048x128, .f32⟩
  | 27 => ⟨S2048x128, .f32⟩
  | 28 => ⟨S_, .f32⟩
  | 29 => ⟨S2048x1, .f32⟩
  | 30 => ⟨S2048x1, .f32⟩
  | 31 => ⟨S2048x1, .f32⟩
  | 32 => ⟨S2048x128, .f32⟩
  | 33 => ⟨S2048x128, .f32⟩
  | 34 => ⟨S1x128, .f32⟩
  | 35 => ⟨S2048x128, .f32⟩
  | 36 => ⟨S2048x128, .f32⟩
  | 37 => ⟨S1x128, .f32⟩
  | 38 => ⟨S2048x128, .f32⟩
  | 39 => ⟨S2048x128, .f32⟩
  | 40 => ⟨S32, .f32⟩
  | 41 => ⟨S_, .f32⟩
  | 42 => ⟨S32, .f32⟩
  | 43 => ⟨S32, .f32⟩
  | 44 => ⟨S_, .f32⟩
  | 45 => ⟨S32, .f32⟩
  | 46 => ⟨S32, .f32⟩
  | 47 => ⟨S_, .f32⟩
  | 48 => ⟨S32, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S2048, .f32⟩
  | 57 => ⟨S2048x1, .f32⟩
  | 58 => ⟨S1x32, .f32⟩
  | 59 => ⟨S2048x32, .f32⟩
  | 60 => ⟨S2048x32, .f32⟩
  | 61 => ⟨S2048x32, .f32⟩
  | 62 => ⟨S2048x32, .f32⟩
  | 63 => ⟨S2048x32, .f32⟩
  | 64 => ⟨S2048x32x64, .f32⟩
  | 65 => ⟨S2048x1x32, .f32⟩
  | 66 => ⟨S2048x1x32, .f32⟩
  | 67 => ⟨S2048x32x32, .f32⟩
  | 68 => ⟨S2048x32x32, .f32⟩
  | 69 => ⟨S2048x32x32, .f32⟩
  | 70 => ⟨S2048x32x32, .f32⟩
  | 71 => ⟨S2048x32x32, .f32⟩
  | 72 => ⟨S2048x32x32, .f32⟩
  | 73 => ⟨S2048x32x32, .f32⟩
  | 74 => ⟨S2048x32x32, .f32⟩
  | 75 => ⟨S2048x32x32, .f32⟩
  | 76 => ⟨S2048x32x32, .f32⟩
  | 77 => ⟨S2048x32x32, .f32⟩
  | 78 => ⟨S2048x32x32, .f32⟩
  | 79 => ⟨S2048x32x64, .f32⟩
  | 80 => ⟨S2048x32x64, .f32⟩
  | 81 => ⟨S2048x32x128, .f32⟩
  | 82 => ⟨S2048x64, .f32⟩
  | 83 => ⟨S2048x32, .f32⟩
  | 84 => ⟨S2048x32, .f32⟩
  | 85 => ⟨S2048x32, .f32⟩
  | 86 => ⟨S2048x32, .f32⟩
  | 87 => ⟨S2048x32, .f32⟩
  | 88 => ⟨S2048x32, .f32⟩
  | 89 => ⟨S2048x32, .f32⟩
  | 90 => ⟨S2048x32, .f32⟩
  | 91 => ⟨S2048x64, .f32⟩
  | 92 => ⟨S2048x64, .f32⟩
  | 93 => ⟨S2048x128, .f32⟩
  | 94 => ⟨S2048x32, .f32⟩
  | 95 => ⟨S_, .f32⟩
  | 96 => ⟨S2048x32, .f32⟩
  | 97 => ⟨S2048x32, .f32⟩
  | 98 => ⟨S_, .f32⟩
  | 99 => ⟨S2048x2048, .f32⟩
  | 100 => ⟨S32x2048x128, .f32⟩
  | 101 => ⟨S32x2048, .f32⟩
  | 102 => ⟨S_, .i32⟩
  | 103 => ⟨S32x2048x128, .f32⟩
  | 104 => ⟨S32x2048, .f32⟩
  | 105 => ⟨S2048x128, .f32⟩
  | 106 => ⟨S_, .i32⟩
  | 107 => ⟨S2048x2048, .f32⟩
  | 108 => ⟨S_, .i32⟩
  | 109 => ⟨S_, .i1⟩
  | 110 => ⟨S_, .i32⟩
  | 111 => ⟨S_, .i32⟩
  | 112 => ⟨S1x2048x128, .f32⟩
  | 113 => ⟨S2048x128, .f32⟩
  | 114 => ⟨S_, .i32⟩
  | 115 => ⟨S1x2048, .f32⟩
  | 116 => ⟨S2048, .f32⟩
  | 117 => ⟨S128x2048, .f32⟩
  | 118 => ⟨S2048x2048, .f32⟩
  | 119 => ⟨S_, .f32⟩
  | 120 => ⟨S2048x2048, .f32⟩
  | 121 => ⟨S2048x2048, .f32⟩
  | 122 => ⟨S2048x1, .f32⟩
  | 123 => ⟨S2048x2048, .f32⟩
  | 124 => ⟨S2048x2048, .f32⟩
  | 125 => ⟨S2048x2048, .f32⟩
  | 126 => ⟨S_, .i32⟩
  | 127 => ⟨S_, .i32⟩
  | _ => ⟨S2048x2048, .f32⟩

abbrev hbmTy0_1 (i : Nat) : BufTy := match i % 128 with
  | 0 => ⟨S2048x1, .i32⟩
  | 1 => ⟨S1x2048, .i32⟩
  | 2 => ⟨S2048x2048, .i32⟩
  | 3 => ⟨S2048x2048, .i32⟩
  | 4 => ⟨S2048x2048, .i1⟩
  | 5 => ⟨S_, .f32⟩
  | 6 => ⟨S_, .f32⟩
  | 7 => ⟨S2048x2048, .f32⟩
  | 8 => ⟨S2048x2048, .f32⟩
  | 9 => ⟨S2048x512, .f32⟩
  | 10 => ⟨S2048x512, .i32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_9 : Ref sig .tc := ⟨.hbm, 95, rfl⟩
abbrev main_v77 : Ref sig .tc := ⟨.hbm, 96, rfl⟩
abbrev main_v78 : Ref sig .tc := ⟨.hbm, 97, rfl⟩
abbrev main_cst_10 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_c : Ref sig .tc := ⟨.hbm, 102, rfl⟩
abbrev main_v82_0 : Ref sig .tc := ⟨.hbm, 103, rfl⟩
abbrev main_v82_1 : Ref sig .tc := ⟨.hbm, 104, rfl⟩
abbrev main_v82_2 : Ref sig .tc := ⟨.hbm, 105, rfl⟩
abbrev main_v82_3 : Ref sig .tc := ⟨.hbm, 106, rfl⟩
abbrev main_v82_4 : Ref sig .tc := ⟨.hbm, 107, rfl⟩
abbrev main_while0c_c_16 : Ref sig .tc := ⟨.hbm, 108, rfl⟩
abbrev main_while0c_v89 : Ref sig .tc := ⟨.hbm, 109, rfl⟩
abbrev main_while0b_call0_c : Ref sig .tc := ⟨.hbm, 110, rfl⟩
abbrev main_while0b_call0_c_0 : Ref sig .tc := ⟨.hbm, 111, rfl⟩
abbrev main_while0b_call0_v0 : Ref sig .tc := ⟨.hbm, 112, rfl⟩
abbrev main_while0b_v89 : Ref sig .tc := ⟨.hbm, 113, rfl⟩
abbrev main_while0b_call1_c : Ref sig .tc := ⟨.hbm, 114, rfl⟩
abbrev main_while0b_call1_v0 : Ref sig .tc := ⟨.hbm, 115, rfl⟩
abbrev main_while0b_v90 : Ref sig .tc := ⟨.hbm, 116, rfl⟩
abbrev main_while0b_v91 : Ref sig .tc := ⟨.hbm, 117, rfl⟩
abbrev main_while0b_v92 : Ref sig .tc := ⟨.hbm, 118, rfl⟩
abbrev main_while0b_cst_16 : Ref sig .tc := ⟨.hbm, 119, rfl⟩
abbrev main_while0b_v93 : Ref sig .tc := ⟨.hbm, 120, rfl⟩
abbrev main_while0b_v94 : Ref sig .tc := ⟨.hbm, 121, rfl⟩
abbrev main_while0b_v95 : Ref sig .tc := ⟨.hbm, 122, rfl⟩
abbrev main_while0b_v96 : Ref sig .tc := ⟨.hbm, 123, rfl⟩
abbrev main_while0b_v97 : Ref sig .tc := ⟨.hbm, 124, rfl⟩
abbrev main_while0b_v98 : Ref sig .tc := ⟨.hbm, 125, rfl⟩
abbrev main_while0b_c_17 : Ref sig .tc := ⟨.hbm, 126, rfl⟩
abbrev main_while0b_v99 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_11 : Ref sig .tc := ⟨.hbm, 133, rfl⟩
abbrev main_call2_v0 : Ref sig .tc := ⟨.hbm, 134, rfl⟩
abbrev main_call2_v1 : Ref sig .tc := ⟨.hbm, 135, rfl⟩
abbrev main_v88 : Ref sig .tc := ⟨.hbm, 136, rfl⟩
abbrev main_values : Ref sig .tc := ⟨.hbm, 137, rfl⟩
abbrev main_indices : Ref sig .tc := ⟨.hbm, 138, rfl⟩

abbrev nD : Nat := 1
abbrev τ : Topo := Topo.v7x

variable {F : FTy → Type} [FloatOps F]

abbrev main_while0_count : Scf.Loop 32 := ⟨0#32, 32#32, 1#32⟩
-- ==== Proof.Mask.lean ====
/-
  THE PRECONDITION: where the positions increase strictly, comparing two positions is comparing their places.
-/
module

public import proofs.«01_k».proof.Defs
public import Idealize.ShloMosaic.Lib.Pointwise
public import Idealize.ShloMosaic.Lib.ReduceAll
public import Idealize.ShloMosaic.Lib.WordCmp

@[expose] public section

set_option maxRecDepth 16384

noncomputable section

namespace Cert.Pre_increasing

open Idealize.ShloMosaic

/-- The side conditions of the precondition's operations. -/
theorem facts : Facts where
  slices_S2048_S2047_1 := by decide +kernel
  slices_S2048_S2047_0 := by decide +kernel
  reducesTo_S2047_S_d0 := by decide +kernel
  h_S_ := by decide +kernel

/-- Where the precondition holds, each position is below the next. -/
theorem next_lt [hF : Facts] (a0 : FVec Ideal S2048x2048 .f32) (a1 : FVec Ideal S2048x1536 .f32) (p : IVec S2048 32)
    (a3 : FVec Ideal S1536x4096 .f32) (a4 : FVec Ideal S2048x128 .f32) (a5 a6 : FVec Ideal S128 .f32)
    (a7 : FVec Ideal S2048x32 .f32) (h : fn a0 a1 p a3 a4 a5 a6 a7 = fun _ => 1#1) (n : ℕ) (hn : n + 1 < 2048) :
    (p (ix1 (⟨n, by omega⟩ : Fin 2048))).toInt < (p (ix1 (⟨n + 1, hn⟩ : Fin 2048))).toInt := by
  haveI : Subsingleton S_.Idx := ⟨fun a b => funext fun z => z.elim0⟩
  have e := Host.reduce_andi_all _ _ _ _ (Shape.Idx.first Facts.h_S_) (congrFun h _) (ix1 (⟨n, by omega⟩ : Fin 2047))
  have e3 : (extractStridedSlice S2047 ![1] p Facts.slices_S2048_S2047_1) (ix1 (⟨n, by omega⟩ : Fin 2047))
      = p (ix1 (⟨n + 1, hn⟩ : Fin 2048)) := by
    pointwise
    exact congrArg (fun z => p (ix1 z)) (Fin.ext (by show 1 + n = n + 1; omega))
  have e4 : (extractStridedSlice S2047 ![0] p Facts.slices_S2048_S2047_0) (ix1 (⟨n, by omega⟩ : Fin 2047))
      = p (ix1 (⟨n, by omega⟩ : Fin 2048)) := by
    pointwise
  have e5 := IntOp.cmpi_sgt.1 e
  rw [← e3, ← e4]
  exact e5

/-- So every earlier position is below every later one, -/
theorem lt_of_lt (p : Fin 2048 → BitVec 32)
    (h : ∀ n (hn : n + 1 < 2048), (p ⟨n, by omega⟩).toInt < (p ⟨n + 1, hn⟩).toInt) (s t : Fin 2048) (hst : s.val < t.val) :
    (p s).toInt < (p t).toInt := by
  obtain ⟨s, hs⟩ := s
  obtain ⟨t, ht⟩ := t
  replace hst : s < t := hst
  induction t with
  | zero => omega
  | succ t ih =>
    rcases Nat.lt_or_ge s t with g | g
    · exact (ih (by omega) g).trans (h t ht)
    · have e : s = t := by omega
      subst e
      exact h s ht

/-- and comparing positions is comparing places. -/
theorem cmp_eq (p : Fin 2048 → BitVec 32)
    (h : ∀ n (hn : n + 1 < 2048), (p ⟨n, by omega⟩).toInt < (p ⟨n + 1, hn⟩).toInt) (t s : Fin 2048) :
    Scalar.cmpi .sge (p t) (p s) = Scalar.cmpi .sge (BitVec.ofNat 32 t.val) (BitVec.ofNat 32 s.val) := by
  have ht := t.isLt
  have hs := s.isLt
  show IntOp.cmpi .sge _ _ = IntOp.cmpi .sge _ _
  rw [WordCmp.cmpi_sge_ofNat (by omega) (by omega), WordCmp.cmpi_sge_eq]
  refine congrArg BitVec.ofBool (decide_eq_decide.mpr ⟨fun g => ?_, fun g => ?_⟩)
  · by_contra hh
    have := lt_of_lt p h t s (by omega)
    omega
  · rcases Nat.lt_or_ge s.val t.val with g' | g'
    · exact (lt_of_lt p h s t g').le
    · have e : s = t := Fin.ext (by omega)
      rw [e]

end Cert.Pre_increasing
-- ==== Proof.Heads.lean ====
/-
  THE HEADS OF THE KERNEL BODY, read at an index over the extended reals: the gated scores of the
  thirty-two heads, added one after another to zero, then the causal mask by row number.
-/
module

public import Idealize.ShloMosaic.Lib.Pointwise
public import proofs.«01_k».proof.Proof.Gen.KernelIdeal.Skeleton

@[expose] public section

set_option maxRecDepth 16384

noncomputable section

namespace Cert.Heads

open Idealize.ShloMosaic Idealize.ShloMosaic.TcCoe Idealize.SL.Sem

/-- The head a natural number names (the number itself below 32). -/
def hd (n : ℕ) : Fin 32 := ⟨n % 32, Nat.mod_lt _ (by decide)⟩

/-- The column of the 4096-wide query row that holds lane `d` of head `h`. -/
def lane (h : Fin 32) (d : Fin 128) : Fin 4096 := ⟨128 * h.val + d.val, by omega⟩

/-- The sum `0 + f 0 + f 1 + … + f (n - 1)`, added from the left. -/
def total (f : ℕ → EReal) : ℕ → EReal
  | 0 => 0
  | n + 1 => total f n + f n

/-- Two sums of termwise equal terms are equal. -/
theorem total_congr (f g : ℕ → EReal) : ∀ n, (∀ k, k < n → f k = g k) → total f n = total g n
  | 0, _ => rfl
  | n + 1, h => by
    show total f n + f n = total g n + g n
    rw [total_congr f g n fun k hk => h k (by omega), h n (by omega)]

/-- One head's gated score: its weight times the positive part of the query-key product. -/
def gated (w : Fin 32 → EReal) (q : Fin 32 → Fin 128 → EReal) (k : Fin 128 → EReal) (n : ℕ) : EReal :=
  w (hd n) * max (∑ d : Fin 128, q (hd n) d * k d) 0

section
open Cert.KernelIdeal Cert.KernelIdeal.Gen

/-- The gated score of head `n` at row `r` of the block and column `l`, from the kernel's rotated
    queries, rotated keys and weights. -/
def headTerm (Q : FVec Ideal S256x4096 .f32) (K : FVec Ideal S2048x128 .f32) (W : FVec Ideal S256x32 .f32)
    (r : Fin 256) (l : Fin 2048) (n : ℕ) : EReal :=
  gated (fun h => W (ix2 r h)) (fun h d => Q (ix2 r (lane h d))) (fun d => K (ix2 l d)) n

variable (Q : FVec Ideal S256x4096 .f32) (K : FVec Ideal S2048x128 .f32) (W : FVec Ideal S256x32 .f32)
  (A D Z : FVec Ideal S256x2048 .f32) (w : FVec Ideal S256x1 .f32) (r : Fin 256) (l : Fin 2048)

set_option maxHeartbeats 4000000 in
/-- The first stretch of heads: head 0 from its ready product, then heads 1 to 5. -/
theorem pay10_at : k0_pay10 (F := Ideal) Q K W A D w Z (ix2 r l)
    = A (ix2 r l) + w (ix2 r 0) * max (D (ix2 r l)) (Z (ix2 r l)) + headTerm Q K W r l 1
      + headTerm Q K W r l 2 + headTerm Q K W r l 3 + headTerm Q K W r l 4 + headTerm Q K W r l 5 := by
  pointwise [k0_pay10, headTerm, gated]
  rfl

set_option maxHeartbeats 4000000 in
/-- The second stretch of heads: head 6 from its ready product, then heads 7 to 11. -/
theorem pay14_at : k0_pay14 (F := Ideal) Q K W A D w Z (ix2 r l)
    = A (ix2 r l) + w (ix2 r 0) * max (D (ix2 r l)) (Z (ix2 r l)) + headTerm Q K W r l 7
      + headTerm Q K W r l 8 + headTerm Q K W r l 9 + headTerm Q K W r l 10 + headTerm Q K W r l 11 := by
  pointwise [k0_pay14, headTerm, gated]
  rfl

set_option maxHeartbeats 4000000 in
/-- The third stretch of heads: head 12 from its ready product, then heads 13 to 17. -/
theorem pay18_at : k0_pay18 (F := Ideal) Q K W A D w Z (ix2 r l)
    = A (ix2 r l) + w (ix2 r 0) * max (D (ix2 r l)) (Z (ix2 r l)) + headTerm Q K W r l 13
      + headTerm Q K W r l 14 + headTerm Q K W r l 15 + headTerm Q K W r l 16 + headTerm Q K W r l 17 := by
  pointwise [k0_pay18, headTerm, gated]
  rfl

set_option maxHeartbeats 4000000 in
/-- The fourth stretch of heads: head 18 from its ready product, then heads 19 to 23. -/
theorem pay22_at : k0_pay22 (F := Ideal) Q K W A D w Z (ix2 r l)
    = A (ix2 r l) + w (ix2 r 0) * max (D (ix2 r l)) (Z (ix2 r l)) + headTerm Q K W r l 19
      + headTerm Q K W r l 20 + headTerm Q K W r l 21 + headTerm Q K W r l 22 + headTerm Q K W r l 23 := by
  pointwise [k0_pay22, headTerm, gated]
  rfl

set_option maxHeartbeats 4000000 in
/-- The fifth stretch of heads: head 24 from its ready product, then heads 25 to 29. -/
theorem pay26_at : k0_pay26 (F := Ideal) Q K W A D w Z (ix2 r l)
    = A (ix2 r l) + w (ix2 r 0) * max (D (ix2 r l)) (Z (ix2 r l)) + headTerm Q K W r l 25
      + headTerm Q K W r l 26 + headTerm Q K W r l 27 + headTerm Q K W r l 28 + headTerm Q K W r l 29 := by
  pointwise [k0_pay26, headTerm, gated]
  rfl

/-- The ready product, weight and zero of head 6 are its gated score. -/
theorem ready6_at : k0_pay12 (F := Ideal) W (ix2 r 0)
      * max (k0_pay11 (F := Ideal) Q K (ix2 r l)) (k0_pay13 (F := Ideal) (ix2 r l)) = headTerm Q K W r l 6 := by
  pointwise [k0_pay11, k0_pay12, k0_pay13, headTerm, gated]
  rfl

/-- The ready product, weight and zero of head 12 are its gated score. -/
theorem ready12_at : k0_pay16 (F := Ideal) W (ix2 r 0)
      * max (k0_pay15 (F := Ideal) Q K (ix2 r l)) (k0_pay17 (F := Ideal) (ix2 r l)) = headTerm Q K W r l 12 := by
  pointwise [k0_pay15, k0_pay16, k0_pay17, headTerm, gated]
  rfl

/-- The ready product, weight and zero of head 18 are its gated score. -/
theorem ready18_at : k0_pay20 (F := Ideal) W (ix2 r 0)
      * max (k0_pay19 (F := Ideal) Q K (ix2 r l)) (k0_pay21 (F := Ideal) (ix2 r l)) = headTerm Q K W r l 18 := by
  pointwise [k0_pay19, k0_pay20, k0_pay21, headTerm, gated]
  rfl

/-- The ready product, weight and zero of head 24 are its gated score. -/
theorem ready24_at : k0_pay24 (F := Ideal) W (ix2 r 0)
      * max (k0_pay23 (F := Ideal) Q K (ix2 r l)) (k0_pay25 (F := Ideal) (ix2 r l)) = headTerm Q K W r l 24 := by
  pointwise [k0_pay23, k0_pay24, k0_pay25, headTerm, gated]
  rfl

/-- The ready product, weight and zero of head 30 are its gated score. -/
theorem ready30_at : k0_pay28 (F := Ideal) W (ix2 r 0)
      * max (k0_pay27 (F := Ideal) Q K (ix2 r l)) (k0_pay29 (F := Ideal) (ix2 r l)) = headTerm Q K W r l 30 := by
  pointwise [k0_pay27, k0_pay28, k0_pay29, headTerm, gated]
  rfl

/-- The ready product, weight and zero of head 0 are its gated score, the rotated keys and the weights
    taken from the blocks they are computed from. -/
theorem ready0_at (K0 c s : FVec Ideal S2048x128 .f32) (H : FVec Ideal S256x2048 .f32) (P : FVec Ideal S2048x32 .f32) :
    k0_pay8 (F := Ideal) H P (ix2 r 0)
      * max (k0_pay7 (F := Ideal) Q K0 c s (ix2 r l)) (k0_pay9 (F := Ideal) (ix2 r l))
    = headTerm Q (k0_pay4 (F := Ideal) K0 c s) (k0_pay5 (F := Ideal) H P) r l 0 := by
  pointwise [k0_pay7, k0_pay8, k0_pay9, headTerm, gated]
  rfl

/-- The running sum starts at zero. -/
theorem pay6_at : k0_pay6 (F := Ideal) (ix2 r l) = 0 := by
  pointwise [k0_pay6]

set_option maxHeartbeats 4000000 in
/-- The last two heads and the mask: row number (the block's first row plus the row in the block)
    at least the column number keeps the sum, any other place holds minus infinity. -/
theorem pay1_at (t0 : BitVec 32) : k0_pay1 (F := Ideal) t0 Q K W A D w Z (ix2 r l)
    = Scalar.select (Scalar.cmpi .sge (t0 + BitVec.ofNat 32 r.val) (BitVec.ofNat 32 l.val))
        (A (ix2 r l) + w (ix2 r 0) * max (D (ix2 r l)) (Z (ix2 r l)) + headTerm Q K W r l 31)
        (Ideal.ofBits .f32 0xFF800000#32) := by
  pointwise [k0_pay1, headTerm, gated]
  rfl

/-- The whole body at an index: the sum over the thirty-two heads under the mask. -/
theorem body_at (t0 : BitVec 32) (K0 c s : FVec Ideal S2048x128 .f32) (H : FVec Ideal S256x2048 .f32)
    (P : FVec Ideal S2048x32 .f32) (hK : k0_pay4 (F := Ideal) K0 c s = K) (hW : k0_pay5 (F := Ideal) H P = W) :
    k0_pay1 (F := Ideal) t0 Q K W
      (k0_pay26 Q K W
        (k0_pay22 Q K W
          (k0_pay18 Q K W
            (k0_pay14 Q K W
              (k0_pay10 Q K W k0_pay6 (k0_pay7 Q K0 c s) (k0_pay8 H P) k0_pay9)
              (k0_pay11 Q K) (k0_pay12 W) k0_pay13)
            (k0_pay15 Q K) (k0_pay16 W) k0_pay17)
          (k0_pay19 Q K) (k0_pay20 W) k0_pay21)
        (k0_pay23 Q K) (k0_pay24 W) k0_pay25)
      (k0_pay27 Q K) (k0_pay28 W) k0_pay29 (ix2 r l)
    = Scalar.select (Scalar.cmpi .sge (t0 + BitVec.ofNat 32 r.val) (BitVec.ofNat 32 l.val))
        (total (headTerm Q K W r l) 32) (Ideal.ofBits .f32 0xFF800000#32) := by
  subst hK hW
  rw [pay1_at, ready30_at, pay26_at, ready24_at, pay22_at, ready18_at, pay18_at, ready12_at, pay14_at, ready6_at,
    pay10_at, ready0_at, pay6_at]
  rfl

end

end Cert.Heads

end
-- ==== Proof.Rope.lean ====
/-
  THE ROTATION of queries and keys: what the kernel computes by lane with widened cosines and sines
  and rolled rows is the pairwise rotation of each head's first 64 lanes.
-/
module

public import proofs.«01_k».proof.Proof.Heads

@[expose] public section

set_option maxRecDepth 16384

noncomputable section

namespace Cert.Rope

open Idealize.ShloMosaic Idealize.ShloMosaic.TcCoe Idealize.SL.Sem Cert.Heads

/-- The bit the kernel computes from a column's number: its remainder by 128 (made nonnegative) is below 32. -/
def lowBit (w : BitVec 32) : BitVec 1 :=
  IntOp.cmpi CmpIPredicate.slt
            (Scalar.select
              (IntOp.andi
                (IntOp.xori
                  (IntOp.cmpi CmpIPredicate.slt
                    (IntOp.remsi ArithUnit.vector w
                      (Scalar.select (Scalar.cmpi CmpIPredicate.eq 128#32 0#32) 1#32 128#32))
                    0#32)
                  (Scalar.cmpi CmpIPredicate.slt (Scalar.select (Scalar.cmpi CmpIPredicate.eq 128#32 0#32) 1#32 128#32)
                    0#32))
                (IntOp.cmpi CmpIPredicate.ne
                  (IntOp.remsi ArithUnit.vector w
                    (Scalar.select (Scalar.cmpi CmpIPredicate.eq 128#32 0#32) 1#32 128#32))
                  0#32))
              (IntOp.addi
                (IntOp.remsi ArithUnit.vector w
                  (Scalar.select (Scalar.cmpi CmpIPredicate.eq 128#32 0#32) 1#32 128#32))
                (Scalar.select (Scalar.cmpi CmpIPredicate.eq 128#32 0#32) 1#32 128#32))
              (IntOp.remsi ArithUnit.vector w
                (Scalar.select (Scalar.cmpi CmpIPredicate.eq 128#32 0#32) 1#32 128#32)))
            32#32

/-- For every column of the query row the bit says that the column's lane in its head is below 32. -/
theorem lowBit_eq : ∀ j : Fin 4096, lowBit (BitVec.ofNat 32 j.val) = BitVec.ofBool (decide (j.val % 128 < 32)) := by
  decide +kernel

/-- Lane `d` below 32, as one of 32 frequencies. -/
def lo (d : Fin 128) : Fin 32 := ⟨d.val % 32, Nat.mod_lt _ (by decide)⟩

/-- The lane 32 above (around the end of the row). -/
def up (d : Fin 128) : Fin 128 := ⟨(d.val + 32) % 128, Nat.mod_lt _ (by decide)⟩

/-- The lane 32 below. -/
def down (d : Fin 128) : Fin 128 := ⟨d.val - 32, by omega⟩

/-- A row's first 64 lanes rotated by the angles of its position, pairing lane `d` with lane `d + 32`;
    the other lanes as they are. -/
def rot (x : Fin 128 → EReal) (c s : Fin 32 → EReal) (d : Fin 128) : EReal :=
  if d.val < 32 then x d * c (lo d) - x (up d) * s (lo d)
  else if d.val < 64 then x d * c (lo d) + x (down d) * s (lo d)
  else x d

/-- The kernel's factor of the lane itself: the cosine twice, then ones. -/
def wideCos (c : Fin 32 → EReal) (d : Fin 128) : EReal :=
  if d.val < 64 then c (lo d) else 1

/-- The kernel's factor of the partner lane: minus the sine, the sine, then zeros. -/
def wideSin (s : Fin 32 → EReal) (d : Fin 128) : EReal :=
  if d.val < 32 then -s (lo d) else if d.val < 64 then s (lo d) else 0

/-- The kernel's two products, the partner chosen by the lane, are the rotated row. -/
theorem rot_eq (x : Fin 128 → EReal) (c s : Fin 32 → EReal) (d : Fin 128) (b : BitVec 1) (y z C S : EReal)
    (hb : b = BitVec.ofBool (decide (d.val < 32))) (hy : d.val < 32 → y = x (up d))
    (hz : 32 ≤ d.val → d.val < 64 → z = x (down d)) (hC : C = wideCos c d) (hS : S = wideSin s d) :
    x d * C + Scalar.select b y z * S = rot x c s d := by
  subst hb hC hS
  unfold rot wideCos wideSin
  by_cases h : d.val < 32
  · have h64 : d.val < 64 := by omega
    simp only [h, h64, if_true, decide_true, hy h]
    show x d * c (lo d) + x (up d) * -s (lo d) = _
    rw [mul_neg, sub_eq_add_neg]
  · by_cases h64 : d.val < 64
    · simp only [h, h64, if_true, if_false, decide_false, hz (by omega) h64]
      rfl
    · simp only [h, h64, if_false]
      rw [mul_one, mul_zero, add_zero]

section
open Cert.KernelIdeal Cert.KernelIdeal.Gen

/-- Thirty-two copies of a 128-wide block side by side, read at a column: the block at the column's remainder by 128. -/
theorem copies_at (x : FVec Ideal S256x128 .f32)
    (h : Shape.Concatenates ((List.replicate 32 (⟨S256x128, x⟩ : (s : Shape) × (s.Idx → EReal))).map (·.1)) S256x4096 1)
    (r : Fin 256) (j : Fin 4096) :
    concatenate S256x4096 1 (List.replicate 32 (⟨S256x128, x⟩ : (s : Shape) × (s.Idx → EReal))) h (ix2 r j)
      = x (ix2 r ⟨j.val % 128, Nat.mod_lt _ (by decide)⟩) := by
  refine concatenate_replicate_apply 1 32 x h rfl _ _ ?_ ?_
  · rfl
  · intro b hb
    fin_cases b
    · rfl
    · exact absurd rfl hb

set_option maxHeartbeats 4000000 in
/-- The rotated queries at a column, as the kernel computes them. -/
theorem pay2_at (q : FVec Ideal S256x4096 .f32) (c s : FVec Ideal S256x128 .f32) (r : Fin 256) (j : Fin 4096) :
    k0_pay2 (F := Ideal) q c s (ix2 r j)
      = q (ix2 r j) * c (ix2 r ⟨j.val % 128, Nat.mod_lt _ (by decide)⟩)
        + Scalar.select (lowBit (BitVec.ofNat 32 j.val))
            (if h : j.val < 4064 then q (ix2 r ⟨32 + j.val, by omega⟩) else q (ix2 r ⟨j.val - 4064, by omega⟩))
            (if h : j.val < 32 then q (ix2 r ⟨4064 + j.val, by omega⟩) else q (ix2 r ⟨j.val - 32, by omega⟩))
          * s (ix2 r ⟨j.val % 128, Nat.mod_lt _ (by decide)⟩) := by
  unfold k0_pay2
  dsimp only
  generalize hC : concatenate S256x4096 1 (_ :: _ :: _ :: _) _ = C
  generalize hS : concatenate S256x4096 1 (_ :: _ :: _ :: _) _ = D
  pointwise
  subst hC hS
  erw [copies_at (shapeCast S256x128 c shapeCasts_S256x128_S256x128), copies_at (shapeCast S256x128 s shapeCasts_S256x128_S256x128)]
  pointwise
  rfl

set_option maxHeartbeats 4000000 in
/-- The rotated queries: lane `d` of head `h` is that lane of the head's rotated row. -/
theorem pay2_rot (q : FVec Ideal S256x4096 .f32) (c s : FVec Ideal S256x128 .f32) (r : Fin 256) (cs sn : Fin 32 → EReal)
    (hc : ∀ d : Fin 128, c (ix2 r d) = wideCos cs d) (hs : ∀ d : Fin 128, s (ix2 r d) = wideSin sn d)
    (h : Fin 32) (d : Fin 128) :
    k0_pay2 (F := Ideal) q c s (ix2 r (lane h d)) = rot (fun e => q (ix2 r (lane h e))) cs sn d := by
  have hd : (⟨(lane h d).val % 128, Nat.mod_lt _ (by decide)⟩ : Fin 128) = d := Fin.ext (by show (128 * h.val + d.val) % 128 = d.val; omega)
  rw [pay2_at, hd, hc d, hs d]
  refine rot_eq (fun e => q (ix2 r (lane h e))) cs sn d _ _ _ _ _ ?_ ?_ ?_ rfl rfl
  · rw [lowBit_eq, show (lane h d).val % 128 = d.val from congrArg Fin.val hd]
  · intro h32
    rw [dif_pos (show (lane h d).val < 4064 by show 128 * h.val + d.val < 4064; omega)]
    exact congrArg (fun z => q (ix2 r z)) (Fin.ext (by show 32 + (128 * h.val + d.val) = 128 * h.val + (d.val + 32) % 128; omega))
  · intro h32 h64
    rw [dif_neg (show ¬ (lane h d).val < 32 by show ¬ 128 * h.val + d.val < 32; omega)]
    exact congrArg (fun z => q (ix2 r z)) (Fin.ext (by show 128 * h.val + d.val - 32 = 128 * h.val + (d.val - 32); omega))

set_option maxHeartbeats 4000000 in
/-- The rotated keys: row `l` is the rotated row of the keys. -/
theorem pay4_rot (k c s : FVec Ideal S2048x128 .f32) (l : Fin 2048) (cs sn : Fin 32 → EReal)
    (hc : ∀ d : Fin 128, c (ix2 l d) = wideCos cs d) (hs : ∀ d : Fin 128, s (ix2 l d) = wideSin sn d) (d : Fin 128) :
    k0_pay4 (F := Ideal) k c s (ix2 l d) = rot (fun e => k (ix2 l e)) cs sn d := by
  pointwise [k0_pay4]
  rw [hc d, hs d]
  refine rot_eq (fun e => k (ix2 l e)) cs sn d _ _ _ _ _ ?_ ?_ ?_ rfl rfl
  · have e := lowBit_eq ⟨d.val, by omega⟩
    rw [show d.val % 128 = d.val by omega] at e
    exact e
  · intro h32
    rw [dif_pos (show d.val < 96 by omega)]
    exact congrArg (fun z => k (ix2 l z)) (Fin.ext (by show 32 + d.val = (d.val + 32) % 128; omega))
  · intro h32 h64
    rw [dif_neg (show ¬ d.val < 32 by omega)]
    rfl

/-- The weights at an index: the hidden row times the projection's column, scaled. -/
theorem pay5_at (H : FVec Ideal S256x2048 .f32) (P : FVec Ideal S2048x32 .f32) (r : Fin 256) (h : Fin 32) :
    k0_pay5 (F := Ideal) H P (ix2 r h)
      = (∑ k : Fin 2048, H (ix2 r k) * P (ix2 k h)) * Ideal.ofBits .f32 0x3C800000#32 := by
  pointwise [k0_pay5]

end

end Cert.Rope

end
-- ==== Proof.Terms.lean ====
/-
  THE HOST LINES OF BOTH PROGRAMS before the scores: the projected queries, the normalised keys and
  the cosines and sines of the positions' angles, each as one term of the arguments; and what the
  two programs' host lines leave in the buffers the scores are computed from.
-/
module

public import Idealize.ShloMosaic.Lib.Pointwise
public import Idealize.ShloMosaic.Lib.StableHlo.RunRead
public import proofs.«01_k».proof.Proof.Rope
public import proofs.«01_k».proof.Proof.Gen.KernelIdeal.Frame
public import proofs.«01_k».proof.Proof.Gen.ReferenceIdeal.Run

@[expose] public section

set_option maxRecDepth 16384

noncomputable section

namespace Cert.Terms

open Idealize.ShloMosaic Idealize.ShloMosaic.TcCoe Idealize.SL.Sem
open Idealize.ShloMosaic.StableHlo
open Cert.Heads Cert.Rope

section
open Cert.KernelIdeal Cert.KernelIdeal.Gen Cert.KernelIdeal.Facts

/-- The projected queries, all heads side by side. -/
def queries (a1 : FVec Ideal S2048x1536 .f32) (a3 : FVec Ideal S1536x4096 .f32) : FVec Ideal S2048x4096 .f32 :=
  Host.dotGeneral dot_S2048x1536_S1536x4096_S2048x4096_1_0_0_1_n_n none a1 a3

/-- The projected keys before normalising. -/
def rawKeys (a0 : FVec Ideal S2048x2048 .f32) (a4 : FVec Ideal S2048x128 .f32) : FVec Ideal S2048x128 .f32 :=
  Host.dotGeneral dot_S2048x2048_S2048x128_S2048x128_1_0_0_1_n_n none a0 a4

/-- The mean of each row over its 128 lanes. -/
def rowMean (k : FVec Ideal S2048x128 .f32) : FVec Ideal S2048x1 .f32 :=
  Host.divf
    (broadcastInDim S2048x1 ![0] bcast_S2048_S2048x1_0
      (Host.reduceAdd k (constant S_ .f32 0x00000000#32) reducesTo_S2048x128_S2048_d1 h_S_))
    (broadcastInDim S2048x1 ![] bcast_S_S2048x1 (constant S_ .f32 0x43000000#32))

/-- Each row less its mean. -/
def centred (k : FVec Ideal S2048x128 .f32) : FVec Ideal S2048x128 .f32 :=
  subf k (broadcastInDim S2048x128 ![0, 1] bcast_S2048x1_S2048x128_0_1 (rowMean k))

/-- The normalised keys: each row centred, divided by the root of its variance plus a small constant,
    times the weights, plus the biases. -/
def keys (a0 : FVec Ideal S2048x2048 .f32) (a4 : FVec Ideal S2048x128 .f32) (a5 a6 : FVec Ideal S128 .f32) :
    FVec Ideal S2048x128 .f32 :=
  addf
    (mulf
      (Host.divf (centred (rawKeys a0 a4))
        (broadcastInDim S2048x128 ![0, 1] bcast_S2048x1_S2048x128_0_1
          (Host.sqrt (addf
            (rowMean (mulf (centred (rawKeys a0 a4)) (centred (rawKeys a0 a4))))
            (broadcastInDim S2048x1 ![] bcast_S_S2048x1 (constant S_ .f32 0x358637BD#32))))))
      (broadcastInDim S2048x128 ![0, 1] bcast_S1x128_S2048x128_0_1 (broadcastInDim S1x128 ![1] bcast_S128_S1x128_1 a5)))
    (broadcastInDim S2048x128 ![0, 1] bcast_S1x128_S2048x128_0_1 (broadcastInDim S1x128 ![1] bcast_S128_S1x128_1 a6))

/-- The thirty-two inverse frequencies. -/
def invFreq : FVec Ideal S32 .f32 :=
  Host.divf (broadcastInDim S32 ![] bcast_S_S32 (constant S_ .f32 0x3F800000#32))
    (Host.powf (broadcastInDim S32 ![] bcast_S_S32 (constant S_ .f32 0x461C4000#32))
      (Host.divf
        (addf (broadcastInDim S32 ![] bcast_S_S32 (constant S_ .f32 0x00000000#32))
          (mulf (broadcastInDim S32 ![] bcast_S_S32 (constant S_ .f32 0x40000000#32)) (sitofp .f32 (iotaInDim S32 32 0))))
        (broadcastInDim S32 ![] bcast_S_S32 (constant S_ .f32 0x42800000#32))))

/-- The angle of each position at each frequency. -/
def angles (a2 : IVec S2048 32) : FVec Ideal S2048x32 .f32 :=
  mulf
    (broadcastInDim S2048x32 ![0, 1] bcast_S2048x1_S2048x32_0_1
      (broadcastInDim S2048x1 ![0] bcast_S2048_S2048x1_0 (sitofp .f32 a2)))
    (broadcastInDim S2048x32 ![0, 1] bcast_S1x32_S2048x32_0_1 (broadcastInDim S1x32 ![1] bcast_S32_S1x32_1 invFreq))

/-- The cosines of the angles. -/
def cosines (a2 : IVec S2048 32) : FVec Ideal S2048x32 .f32 := Host.cos (angles a2)

/-- The sines of the angles. -/
def sines (a2 : IVec S2048 32) : FVec Ideal S2048x32 .f32 := Host.sin (angles a2)

variable (U : Valuation τ sig (Elt Ideal))

set_option maxHeartbeats 8000000 in
/-- The kernel's host line leaves the projected queries in its first window's array. -/
theorem kernel_queries : after (List.flatten [hostOps0 (F := Ideal)]) U (Proc.devRef .tc main_v0)
    = queries (U (Proc.devRef .tc main_arg1)) (U (Proc.devRef .tc main_arg3)) := by
  simp only [List.flatten_cons, List.flatten_nil, List.append_nil]
  after_reads_simp
  rfl

set_option maxHeartbeats 8000000 in
/-- It leaves the normalised keys in its second window's array. -/
theorem kernel_keys : after (List.flatten [hostOps0 (F := Ideal)]) U (Proc.devRef .tc main_v25)
    = keys (U (Proc.devRef .tc main_arg0)) (U (Proc.devRef .tc main_arg4)) (U (Proc.devRef .tc main_arg5))
        (U (Proc.devRef .tc main_arg6)) := by
  simp only [List.flatten_cons, List.flatten_nil, List.append_nil]
  after_reads_simp
  rfl

/-- The cosines widened to 128 lanes: twice the cosines, then ones. -/
def wideC (c : FVec Ideal S2048x32 .f32) : FVec Ideal S2048x128 .f32 :=
  concatenate S2048x128 1 [⟨S2048x32, c⟩, ⟨S2048x32, c⟩,
    ⟨S2048x64, broadcastInDim S2048x64 ![] bcast_S_S2048x64 (constant S_ .f32 0x3F800000#32)⟩]
    concatenates_S2048x32_S2048x32_S2048x64_S2048x128_d1

/-- The sines widened to 128 lanes: minus the sines, the sines, then zeros. -/
def wideS (s : FVec Ideal S2048x32 .f32) : FVec Ideal S2048x128 .f32 :=
  concatenate S2048x128 1 [⟨S2048x32, negf s⟩, ⟨S2048x32, s⟩,
    ⟨S2048x64, broadcastInDim S2048x64 ![] bcast_S_S2048x64 (constant S_ .f32 0x00000000#32)⟩]
    concatenates_S2048x32_S2048x32_S2048x64_S2048x128_d1

/-- The widened cosines at a row and lane. -/
theorem wideC_at (c : FVec Ideal S2048x32 .f32) (t : Fin 2048) (d : Fin 128) :
    wideC c (ix2 t d) = wideCos (fun e => c (ix2 t e)) d := by
  pointwise [wideC]
  unfold wideCos
  by_cases h : d.val < 32
  · rw [dif_pos h]
    refine Eq.trans ?_ (if_pos (show d.val < 64 by omega)).symm
    exact congrArg (fun z => c (ix2 t z)) (Fin.ext (by show d.val = d.val % 32; omega))
  · rw [dif_neg h]
    by_cases h' : d.val < 64
    · rw [dif_pos (by omega), if_pos h']
      exact congrArg (fun z => c (ix2 t z)) (Fin.ext (by show d.val - 32 = d.val % 32; omega))
    · rw [dif_neg (by omega), if_neg h']

/-- The widened sines at a row and lane. -/
theorem wideS_at (s : FVec Ideal S2048x32 .f32) (t : Fin 2048) (d : Fin 128) :
    wideS s (ix2 t d) = wideSin (fun e => s (ix2 t e)) d := by
  pointwise [wideS]
  unfold wideSin
  by_cases h : d.val < 32
  · rw [dif_pos h, if_pos h]
    exact congrArg (fun z => -s (ix2 t z)) (Fin.ext (by show d.val = d.val % 32; omega))
  · rw [dif_neg h, if_neg h]
    by_cases h' : d.val < 64
    · rw [dif_pos (by omega), if_pos h']
      exact congrArg (fun z => s (ix2 t z)) (Fin.ext (by show d.val - 32 = d.val % 32; omega))
    · rw [dif_neg (by omega), if_neg h']

set_option maxHeartbeats 8000000 in
/-- It leaves the widened cosines of the positions. -/
theorem kernel_cos : after (List.flatten [hostOps0 (F := Ideal)]) U (Proc.devRef .tc main_v47)
    = wideC (cosines (U (Proc.devRef .tc main_arg2))) := by
  simp only [List.flatten_cons, List.flatten_nil, List.append_nil]
  after_reads_simp
  rfl

set_option maxHeartbeats 8000000 in
/-- It leaves the widened sines of the positions. -/
theorem kernel_sin : after (List.flatten [hostOps0 (F := Ideal)]) U (Proc.devRef .tc main_v49)
    = wideS (sines (U (Proc.devRef .tc main_arg2))) := by
  simp only [List.flatten_cons, List.flatten_nil, List.append_nil]
  after_reads_simp
  rfl

end

end Cert.Terms
-- ==== Proof.KernelValue.lean ====
/-
  THE KERNEL'S RESULT: the array of masked scores its grid leaves, and the indices its host takes from it.
-/
module

public import Idealize.ShloMosaic.Lib.Pipeline.ValueKit
public import proofs.«01_k».proof.Proof.Terms

@[expose] public section

set_option maxRecDepth 16384

noncomputable section

namespace Cert.Terms

open Idealize.ShloMosaic Cert.Heads Cert.Rope

/-- The weight of a row's head: the hidden row against the head's column of the projection, scaled. -/
def weight (a0 : FVec Ideal ⟨2, ![2048, 2048]⟩ .f32) (a7 : FVec Ideal ⟨2, ![2048, 32]⟩ .f32) (t : Fin 2048) (h : Fin 32) : EReal :=
  (∑ k : Fin 2048, (a0 (ix2 t k) * a7 (ix2 k h) : EReal)) * Ideal.ofBits .f32 0x3C800000#32

/-- Head `n`'s term of the score of row `t` against key `l`: the rotated query head against the rotated key,
    negative products dropped, times the head's weight. -/
def scoreTerm (q : FVec Ideal ⟨2, ![2048, 4096]⟩ .f32) (k : FVec Ideal ⟨2, ![2048, 128]⟩ .f32)
    (c s : FVec Ideal ⟨2, ![2048, 32]⟩ .f32) (a0 : FVec Ideal ⟨2, ![2048, 2048]⟩ .f32)
    (a7 : FVec Ideal ⟨2, ![2048, 32]⟩ .f32) (t l : Fin 2048) (n : ℕ) : EReal :=
  gated (weight a0 a7 t)
    (fun h d => rot (fun e => q (ix2 t (lane h e))) (fun e => c (ix2 t e)) (fun e => s (ix2 t e)) d)
    (fun d => rot (fun e => k (ix2 l e)) (fun e => c (ix2 l e)) (fun e => s (ix2 l e)) d) n

/-- The masked score: the sum over the 32 heads where the key is not later than the row, minus infinity elsewhere. -/
def logits (q : FVec Ideal ⟨2, ![2048, 4096]⟩ .f32) (k : FVec Ideal ⟨2, ![2048, 128]⟩ .f32)
    (c s : FVec Ideal ⟨2, ![2048, 32]⟩ .f32) (a0 : FVec Ideal ⟨2, ![2048, 2048]⟩ .f32)
    (a7 : FVec Ideal ⟨2, ![2048, 32]⟩ .f32) : FVec Ideal ⟨2, ![2048, 2048]⟩ .f32 := fun i =>
  Scalar.select (Scalar.cmpi .sge (BitVec.ofNat 32 (i 0).val) (BitVec.ofNat 32 (i 1).val))
    (total (scoreTerm q k c s a0 a7 (i 0) (i 1)) 32) (Ideal.ofBits .f32 0xFF800000#32)

end Cert.Terms

namespace Cert.KernelIdeal.Scores

open Idealize.ShloMosaic Idealize.ShloMosaic.TcCoe Idealize.SL.Sem
open Idealize.ShloMosaic.Pipeline (Dat)
open Cert.KernelIdeal Cert.KernelIdeal.Gen Cert.Heads Cert.Rope Cert.Terms

variable (m : (ℓ : Loc nD τ sig) → Buf (Elt Ideal) ℓ)

/-- The windows' block indices at every point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0]
    ∧ win0_7.index t = ![0, 0] ∧ win0_8.index t = ![t.val, 0] ∧ ((grid0.coords t) 0).val = t.val ∧ t.val < 8 :=
  (by decide +kernel : ∀ t : Fin grid0.N, _)

/-- The masked scores of device `c`'s arguments. -/
def scores (c : Dev nD) : FVec Ideal S2048x2048 .f32 :=
  logits (V m c main_v0) (V m c main_v25)
    (cosines (m ((c : Thread nD τ).loc main_arg2))) (sines (m ((c : Thread nD τ).loc main_arg2)))
    (m ((c : Thread nD τ).loc main_arg0)) (m ((c : Thread nD τ).loc main_arg7))

theorem hz : (![0, 0] : Fin 2 → Nat) = fun _ => 0 := funext fun a => by fin_cases a <;> rfl

section
variable (i : grid0.Coords) (x0 : Vec Ideal S256x4096 .f32) (x1 : Vec Ideal S2048x128 .f32) (x2 : Vec Ideal S256x2048 .f32)
  (x3 : Vec Ideal S2048x32 .f32) (x4 : Vec Ideal S256x128 .f32) (x5 : Vec Ideal S256x128 .f32) (x6 : Vec Ideal S2048x128 .f32)
  (x7 : Vec Ideal S2048x128 .f32)

/-- The rotated query block is the payload of the whole staged blocks. -/
theorem pay30_eq : k0_pay30 i x0 x1 x2 x3 x4 x5 x6 x7 = k0_pay2 x0 x4 x5 := by
  unfold k0_pay30
  rw [View.ld_unit_zero hz, View.ld_unit_zero hz, View.ld_unit_zero hz]

/-- The staged keys. -/
theorem pay31_eq : k0_pay31 i x0 x1 x2 x3 x4 x5 x6 x7 = k0_pay3 x1 := by
  unfold k0_pay31
  rw [View.ld_unit_zero hz]

/-- The rotated keys. -/
theorem pay32_eq : k0_pay32 i x0 x1 x2 x3 x4 x5 x6 x7 = k0_pay4 (k0_pay3 x1) x6 x7 := by
  unfold k0_pay32
  rw [pay31_eq, View.ld_unit_zero hz, View.ld_unit_zero hz]

/-- The weights of the block's rows. -/
theorem pay33_eq : k0_pay33 i x0 x1 x2 x3 x4 x5 x6 x7 = k0_pay5 x2 x3 := by
  unfold k0_pay33
  rw [View.ld_unit_zero hz, View.ld_unit_zero hz]

/-- A head's term over the blocks is the head's term over the arrays the blocks are read from. -/
theorem headTerm_eq (q : FVec Ideal ⟨2, ![2048, 4096]⟩ .f32) (k : FVec Ideal ⟨2, ![2048, 128]⟩ .f32)
    (c s : FVec Ideal ⟨2, ![2048, 32]⟩ .f32) (a0 : FVec Ideal ⟨2, ![2048, 2048]⟩ .f32)
    (a7 : FVec Ideal ⟨2, ![2048, 32]⟩ .f32) (r : Fin 256) (t l : Fin 2048)
    (h0 : ∀ j, x0 (ix2 r j) = q (ix2 t j)) (h1 : ∀ d, x1 (ix2 l d) = k (ix2 l d)) (h2 : ∀ j, x2 (ix2 r j) = a0 (ix2 t j))
    (h3 : ∀ j h, x3 (ix2 j h) = a7 (ix2 j h))
    (h4 : ∀ d, x4 (ix2 r d) = wideC c (ix2 t d)) (h5 : ∀ d, x5 (ix2 r d) = wideS s (ix2 t d))
    (h6 : ∀ d, x6 (ix2 l d) = wideC c (ix2 l d)) (h7 : ∀ d, x7 (ix2 l d) = wideS s (ix2 l d)) (n : ℕ) :
    headTerm (k0_pay2 x0 x4 x5) (k0_pay4 (k0_pay3 x1) x6 x7) (k0_pay5 x2 x3) r l n = scoreTerm q k c s a0 a7 t l n := by
  unfold headTerm scoreTerm
  have ew : (fun h => k0_pay5 (F := Ideal) x2 x3 (ix2 r h)) = weight a0 a7 t := by
    funext h
    rw [pay5_at]
    unfold weight
    refine congrArg (fun z : EReal => z * Ideal.ofBits .f32 0x3C800000#32) (Finset.sum_congr rfl fun j _ => ?_)
    rw [h2, h3]
  have eq : (fun (h : Fin 32) (d : Fin 128) => k0_pay2 (F := Ideal) x0 x4 x5 (ix2 r (lane h d)))
      = fun h d => rot (fun e => q (ix2 t (lane h e))) (fun e => c (ix2 t e)) (fun e => s (ix2 t e)) d := by
    funext h d
    rw [pay2_rot x0 x4 x5 r (fun e => c (ix2 t e)) (fun e => s (ix2 t e)) (fun d => (h4 d).trans (wideC_at c t d))
      (fun d => (h5 d).trans (wideS_at s t d))]
    exact congrArg (fun z => rot z _ _ d) (funext fun e => h0 _)
  have ek : (fun (d : Fin 128) => k0_pay4 (F := Ideal) (k0_pay3 x1) x6 x7 (ix2 l d))
      = fun d => rot (fun e => k (ix2 l e)) (fun e => c (ix2 l e)) (fun e => s (ix2 l e)) d := by
    funext d
    rw [pay4_rot (k0_pay3 x1) x6 x7 l (fun e => c (ix2 l e)) (fun e => s (ix2 l e)) (fun d => (h6 d).trans (wideC_at c l d))
      (fun d => (h7 d).trans (wideS_at s l d))]
    exact congrArg (fun z => rot z _ _ d) (funext fun e => (show k0_pay3 x1 (ix2 l e) = x1 (ix2 l e) by pointwise [k0_pay3]).trans (h1 e))
  rw [ew, eq, ek]

end

/-- The queries' array at the region's entry. -/
theorem V_queries (c : Dev nD) : V m c main_v0 = queries (m ((c : Thread nD τ).loc main_arg1)) (m ((c : Thread nD τ).loc main_arg3)) :=
  kernel_queries _

/-- The keys' array at the region's entry. -/
theorem V_keys (c : Dev nD) : V m c main_v25 = keys (m ((c : Thread nD τ).loc main_arg0)) (m ((c : Thread nD τ).loc main_arg4))
    (m ((c : Thread nD τ).loc main_arg5)) (m ((c : Thread nD τ).loc main_arg6)) :=
  kernel_keys _

/-- The widened cosines at the region's entry. -/
theorem V_cos (c : Dev nD) : V m c main_v47 = wideC (cosines (m ((c : Thread nD τ).loc main_arg2))) :=
  kernel_cos _

/-- The widened sines at the region's entry. -/
theorem V_sin (c : Dev nD) : V m c main_v49 = wideS (sines (m ((c : Thread nD τ).loc main_arg2))) :=
  kernel_sin _

set_option maxHeartbeats 4000000 in
/-- The scores' array ends holding the masked scores. -/
theorem final (c : Dev nD) : (dats m 0 c).arrAt 8 (cfgs 0).N = scores m c := by
  refine (dats m 0 c).arrAt_eq_of_covers 8 _ (by decide +kernel) fun t _ y => ?_
  blk_simp
  rw [after0_8]
  frame_out
  obtain ⟨r, l, rfl⟩ : ∃ (r : Fin 256) (l : Fin 2048), y = ix2 r l := ⟨y 0, y 1, eq_ix2 y⟩
  have ht : t.val < 8 := (idx t).2.2.2.2.2.2.2.2.2.2
  rw [pay30_eq, pay31_eq, pay32_eq, pay33_eq]
  have he : ((View.whole main_v50).slice (win0_8.rect t)).emb (ix2 r l)
      = ix2 (⟨256 * t.val + r.val, by omega⟩ : Fin 2048) l := by
    blk_ext [idx t]
  refine (body_at _ _ _ r l _ _ _ _ _ _ rfl rfl).trans ?_
  rw [he]
  unfold scores logits
  refine congr (congrArg₂ Scalar.select (congrArg₂ (Scalar.cmpi .sge) ?_ rfl) (total_congr _ _ 32 fun n _ => ?_)) rfl
  · rw [(idx t).2.2.2.2.2.2.2.2.2.1]
    apply BitVec.eq_of_toNat_eq
    show (BitVec.ofNat 32 t.val * 256#32 + BitVec.ofNat 32 r.val).toNat = (BitVec.ofNat 32 (256 * t.val + r.val)).toNat
    simp only [BitVec.toNat_add, BitVec.toNat_mul, BitVec.toNat_ofNat]
    omega
  · refine headTerm_eq _ _ _ _ _ _ _ _ _ _ _ _ _ _ r _ l ?_ ?_ ?_ ?_ ?_ ?_ ?_ ?_ n
    · intro j; blk_ext [iblk, idx t]
    · intro j; blk_ext [iblk, idx t]
    · intro j; blk_ext [iblk, V_main_arg0, idx t]
    · intro j h; blk_ext [iblk, V_main_arg7, idx t]
    · intro d; rw [← V_cos m c]; blk_ext [iblk, idx t]
    · intro d; rw [← V_sin m c]; blk_ext [iblk, idx t]
    · intro d; rw [← V_cos m c]; blk_ext [iblk, idx t]
    · intro d; rw [← V_sin m c]; blk_ext [iblk, idx t]

end Cert.KernelIdeal.Scores
-- ==== Proof.KernelRun.lean ====
/-
  THE KERNEL'S RUN, read: the returned indices are the top 512 of each row of the masked scores.
-/
module

public import Idealize.ShloMosaic.Lib.StableHlo.RunRead
public import proofs.«01_k».proof.Proof.KernelValue

@[expose] public section

set_option maxRecDepth 16384

noncomputable section

namespace Cert.KernelIdeal.Scores

open Idealize.ShloMosaic Idealize.ShloMosaic.TcCoe Idealize.SL.Sem
open Idealize.ShloMosaic.StableHlo
open Idealize.ShloMosaic.Pipeline (Dat)
open Cert.KernelIdeal Cert.KernelIdeal.Gen Cert.KernelIdeal.Facts Cert.Heads Cert.Rope Cert.Terms

variable (m : (ℓ : Loc nD τ sig) → Buf (Elt Ideal) ℓ) (ρ : Dev nD → PrngReg)

/-- The indices of the 512 largest of each row, as the host operation gives them. -/
def best (x : FVec Ideal S2048x2048 .f32) : IVec S2048x512 32 :=
  (Host.topK S2048x512 1 (FloatOps.cmpfTotal .gt) x sliceFits_S2048x2048_S2048x512).2

/-- The host line after the scores leaves the indices of each row's best keys. -/
theorem tail_indices (c : Dev nD) :
    Pipeline.afterTail₀ cfgs (dats m) 0 (V0 m) [hostOps1] c main_indices = best (scores m c) := by
  unfold Pipeline.afterTail₀
  generalize hX : Pipeline.withArrays _ _ _ _ = X
  have hs : X (Proc.devRef .tc main_v50) = scores m c := by
    rw [← hX]
    exact (Pipeline.withArrays_arr_shared spec0 c (V0 m c) (fun w => (dats m 0 c).arrAt w (cfgs 0).N)
      ((dats m 0 c).arrAt_sharedIn sharedIn0 (V0 m c) (fun w => A_eq m c w) _) 8).trans (final m c)
  rw [← hs]
  simp only [List.flatten_cons, List.flatten_nil, List.append_nil]
  after_reads_simp
  rfl

/-- The scores in the arguments alone. -/
theorem scores_eq (c : Dev nD) : scores m c
    = logits (queries (m ((c : Thread nD τ).loc main_arg1)) (m ((c : Thread nD τ).loc main_arg3)))
      (keys (m ((c : Thread nD τ).loc main_arg0)) (m ((c : Thread nD τ).loc main_arg4))
        (m ((c : Thread nD τ).loc main_arg5)) (m ((c : Thread nD τ).loc main_arg6)))
      (cosines (m ((c : Thread nD τ).loc main_arg2))) (sines (m ((c : Thread nD τ).loc main_arg2)))
      (m ((c : Thread nD τ).loc main_arg0)) (m ((c : Thread nD τ).loc main_arg7)) := by
  unfold scores
  rw [V_queries, V_keys]

/-- Every run ends with the returned indices at each row's best keys and the arguments unchanged. -/
theorem run : θ_run defs (onTc (τ := τ) (main (F := Ideal))) ⟨m, fun _ => 0, ρ⟩ fun r => ∀ c : Dev nD,
      r.2.mem ((c : Thread nD τ).loc main_indices) = best (scores m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_indices (Pipeline.mem_restRefs_of main_indices (by decide) (by decide))).trans (tail_indices m c),
      ((h c).1 2).trans (((dats m 0 c).arrAt_in 2 rfl _).trans ((A_eq m c 2).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 3).trans (((dats m 0 c).arrAt_in 3 rfl _).trans ((A_eq m c 3).trans (V_main_arg7 m c)))⟩)
    (run_main m ρ)

end Cert.KernelIdeal.Scores
-- ==== Proof.RefTerms.lean ====
/-
  THE HOST LINES OF BOTH PROGRAMS before the scores: the projected queries, the normalised keys and
  the cosines and sines of the positions' angles, each as one term of the arguments; and what the
  two programs' host lines leave in the buffers the scores are computed from.
-/
module

public import Idealize.ShloMosaic.Lib.Pointwise
public import Idealize.ShloMosaic.Lib.StableHlo.RunRead
public import proofs.«01_k».proof.Proof.Terms
public import proofs.«01_k».proof.Proof.Gen.KernelIdeal.Frame
public import proofs.«01_k».proof.Proof.Gen.ReferenceIdeal.Run

@[expose] public section

set_option maxRecDepth 16384

noncomputable section

namespace Cert.Terms

open Idealize.ShloMosaic Idealize.ShloMosaic.TcCoe Idealize.SL.Sem
open Idealize.ShloMosaic.StableHlo
open Cert.Heads Cert.Rope

section
open Cert.ReferenceIdeal Cert.ReferenceIdeal.Gen Cert.ReferenceIdeal.Facts

/-- The reference's query heads before the rotation. -/
def headsOf (q : FVec Ideal S2048x4096 .f32) : FVec Ideal S2048x32x128 .f32 :=
  shapeCast S2048x32x128 q shapeCasts_S2048x4096_S2048x32x128

/-- The reference's rotated queries, head by head. -/
def refQueries (q : FVec Ideal S2048x4096 .f32) (c s : FVec Ideal S2048x32 .f32) : FVec Ideal S32x2048x128 .f32 :=
  let c1 := broadcastInDim S2048x1x32 ![0, 2] bcast_S2048x32_S2048x1x32_0_2 c
  let s1 := broadcastInDim S2048x1x32 ![0, 2] bcast_S2048x32_S2048x1x32_0_2 s
  let x := extractStridedSlice S2048x32x64 ![0, 0, 0] (headsOf q) slices_S2048x32x128_S2048x32x64_0_0_0
  let x1 := extractStridedSlice S2048x32x32 ![0, 0, 0] x slices_S2048x32x64_S2048x32x32_0_0_0
  let x2 := extractStridedSlice S2048x32x32 ![0, 0, 32] x slices_S2048x32x64_S2048x32x32_0_0_32
  let o1 := subf (mulf x1 (broadcastInDim S2048x32x32 ![0, 1, 2] bcast_S2048x1x32_S2048x32x32_0_1_2 c1))
    (mulf x2 (broadcastInDim S2048x32x32 ![0, 1, 2] bcast_S2048x1x32_S2048x32x32_0_1_2 s1))
  let o2 := addf (mulf x2 (broadcastInDim S2048x32x32 ![0, 1, 2] bcast_S2048x1x32_S2048x32x32_0_1_2 c1))
    (mulf x1 (broadcastInDim S2048x32x32 ![0, 1, 2] bcast_S2048x1x32_S2048x32x32_0_1_2 s1))
  let y := concatenate S2048x32x64 2 [⟨S2048x32x32, o1⟩, ⟨S2048x32x32, o2⟩] concatenates_S2048x32x32_S2048x32x32_S2048x32x64_d2
  let z := extractStridedSlice S2048x32x64 ![0, 0, 64] (headsOf q) slices_S2048x32x128_S2048x32x64_0_0_64
  transpose S32x2048x128 [1, 0, 2]
    (concatenate S2048x32x128 2 [⟨S2048x32x64, y⟩, ⟨S2048x32x64, z⟩] concatenates_S2048x32x64_S2048x32x64_S2048x32x128_d2)
    transposes_S2048x32x128_S32x2048x128_1_0_2

/-- The reference's rotated keys. -/
def refKeys (k : FVec Ideal S2048x128 .f32) (c s : FVec Ideal S2048x32 .f32) : FVec Ideal S2048x128 .f32 :=
  let x := extractStridedSlice S2048x64 ![0, 0] k slices_S2048x128_S2048x64_0_0
  let x1 := extractStridedSlice S2048x32 ![0, 0] x slices_S2048x64_S2048x32_0_0
  let x2 := extractStridedSlice S2048x32 ![0, 32] x slices_S2048x64_S2048x32_0_32
  let y := concatenate S2048x64 1 [⟨S2048x32, subf (mulf x1 c) (mulf x2 s)⟩, ⟨S2048x32, addf (mulf x2 c) (mulf x1 s)⟩]
    concatenates_S2048x32_S2048x32_S2048x64_d1
  concatenate S2048x128 1 [⟨S2048x64, y⟩, ⟨S2048x64, extractStridedSlice S2048x64 ![0, 64] k slices_S2048x128_S2048x64_0_64⟩]
    concatenates_S2048x64_S2048x64_S2048x128_d1

/-- The reference's weights, head by head. -/
def refWeights (a0 : FVec Ideal S2048x2048 .f32) (a7 : FVec Ideal S2048x32 .f32) : FVec Ideal S32x2048 .f32 :=
  transpose S32x2048 [1, 0]
    (mulf (Host.dotGeneral dot_S2048x2048_S2048x32_S2048x32_1_0_0_1_n_n none a0 a7)
      (broadcastInDim S2048x32 ![] bcast_S_S2048x32 (constant S_ .f32 0x3C800000#32)))
    transposes_S2048x32_S32x2048_1_0

set_option maxHeartbeats 4000000 in
/-- The reference's rotated queries at a head, row and lane: that lane of the head's rotated row. -/
theorem refQueries_at (q : FVec Ideal S2048x4096 .f32) (c s : FVec Ideal S2048x32 .f32) (h : Fin 32) (t : Fin 2048)
    (d : Fin 128) : refQueries q c s (ix3 h t d)
      = rot (fun e => q (ix2 t (lane h e))) (fun e => c (ix2 t e)) (fun e => s (ix2 t e)) d := by
  have hq : ∀ i j : Fin 4096, i.val = j.val → q (ix2 t i) = q (ix2 t j) := fun i j e => by rw [Fin.ext e]
  have hc : ∀ i j : Fin 32, i.val = j.val → c (ix2 t i) = c (ix2 t j) := fun i j e => by rw [Fin.ext e]
  have hs : ∀ i j : Fin 32, i.val = j.val → s (ix2 t i) = s (ix2 t j) := fun i j e => by rw [Fin.ext e]
  pointwise [refQueries, headsOf]
  unfold rot
  by_cases h64 : d.val < 64
  · rw [dif_pos h64]
    by_cases h32 : d.val < 32
    · rw [dif_pos h32]
      refine Eq.trans ?_ (if_pos h32).symm
      exact congrArg₂ (fun a b : EReal => a - b)
        (congrArg₂ (fun a b : EReal => a * b) (hq _ _ (by simp only [lane, up, lo]; omega)) (hc _ _ (by simp only [lane, up, lo]; omega)))
        (congrArg₂ (fun a b : EReal => a * b) (hq _ _ (by simp only [lane, up, lo]; omega)) (hs _ _ (by simp only [lane, up, lo]; omega)))
    · rw [dif_neg h32]
      refine Eq.trans ?_ ((if_neg h32).trans (if_pos h64)).symm
      exact congrArg₂ (fun a b : EReal => a + b)
        (congrArg₂ (fun a b : EReal => a * b) (hq _ _ (by simp only [lane, down, lo]; omega)) (hc _ _ (by simp only [lane, up, lo]; omega)))
        (congrArg₂ (fun a b : EReal => a * b) (hq _ _ (by simp only [lane, down, lo]; omega)) (hs _ _ (by simp only [lane, up, lo]; omega)))
  · rw [dif_neg h64]
    refine Eq.trans ?_ ((if_neg (show ¬ d.val < 32 by omega)).trans (if_neg h64)).symm
    exact hq _ _ (by simp only [lane]; omega)

set_option maxHeartbeats 4000000 in
/-- The reference's rotated keys at a row and lane: that lane of the rotated row. -/
theorem refKeys_at (k : FVec Ideal S2048x128 .f32) (c s : FVec Ideal S2048x32 .f32) (l : Fin 2048)
    (d : Fin 128) : refKeys k c s (ix2 l d)
      = rot (fun e => k (ix2 l e)) (fun e => c (ix2 l e)) (fun e => s (ix2 l e)) d := by
  have hk : ∀ i j : Fin 128, i.val = j.val → k (ix2 l i) = k (ix2 l j) := fun i j e => by rw [Fin.ext e]
  have hc : ∀ i j : Fin 32, i.val = j.val → c (ix2 l i) = c (ix2 l j) := fun i j e => by rw [Fin.ext e]
  have hs : ∀ i j : Fin 32, i.val = j.val → s (ix2 l i) = s (ix2 l j) := fun i j e => by rw [Fin.ext e]
  pointwise [refKeys]
  unfold rot
  by_cases h64 : d.val < 64
  · rw [dif_pos h64]
    by_cases h32 : d.val < 32
    · rw [dif_pos h32]
      refine Eq.trans ?_ (if_pos h32).symm
      exact congrArg₂ (fun a b : EReal => a - b)
        (congrArg₂ (fun a b : EReal => a * b) rfl (hc _ _ (by simp only [lo]; omega)))
        (congrArg₂ (fun a b : EReal => a * b) (hk _ _ (by simp only [up]; omega)) (hs _ _ (by simp only [lo]; omega)))
    · rw [dif_neg h32]
      refine Eq.trans ?_ ((if_neg h32).trans (if_pos h64)).symm
      exact congrArg₂ (fun a b : EReal => a + b)
        (congrArg₂ (fun a b : EReal => a * b) (hk _ _ (by dsimp only; omega)) (hc _ _ (by simp only [lo]; omega)))
        (congrArg₂ (fun a b : EReal => a * b) (hk _ _ rfl) (hs _ _ (by simp only [lo]; omega)))
  · rw [dif_neg h64]
    refine Eq.trans ?_ ((if_neg (show ¬ d.val < 32 by omega)).trans (if_neg h64)).symm
    exact hk _ _ (by dsimp only; omega)

/-- The reference's weights at a head and row. -/
theorem refWeights_at (a0 : FVec Ideal S2048x2048 .f32) (a7 : FVec Ideal S2048x32 .f32) (h : Fin 32) (t : Fin 2048) :
    refWeights a0 a7 (ix2 h t) = (∑ k : Fin 2048, a0 (ix2 t k) * a7 (ix2 k h)) * Ideal.ofBits .f32 0x3C800000#32 := by
  pointwise [refWeights]

variable (U : Valuation τ sig (Elt Ideal))

set_option maxHeartbeats 8000000 in
/-- The reference's host line enters the loop with the rotated queries of the same projected queries. -/
theorem ref_queries : after (hostOps0 (F := Ideal)) U (Proc.devRef .tc main_v82_0)
    = refQueries (queries (U (Proc.devRef .tc main_arg1)) (U (Proc.devRef .tc main_arg3)))
        (cosines (U (Proc.devRef .tc main_arg2))) (sines (U (Proc.devRef .tc main_arg2))) := by
  after_reads_simp
  rfl

set_option maxHeartbeats 8000000 in
/-- With the weights, head by head. -/
theorem ref_weights : after (hostOps0 (F := Ideal)) U (Proc.devRef .tc main_v82_1)
    = refWeights (U (Proc.devRef .tc main_arg0)) (U (Proc.devRef .tc main_arg7)) := by
  after_reads_simp
  rfl

set_option maxHeartbeats 8000000 in
/-- With the rotated keys of the same normalised keys. -/
theorem ref_keys : after (hostOps0 (F := Ideal)) U (Proc.devRef .tc main_v82_2)
    = refKeys (keys (U (Proc.devRef .tc main_arg0)) (U (Proc.devRef .tc main_arg4)) (U (Proc.devRef .tc main_arg5))
        (U (Proc.devRef .tc main_arg6)))
        (cosines (U (Proc.devRef .tc main_arg2))) (sines (U (Proc.devRef .tc main_arg2))) := by
  after_reads_simp
  rfl

/-- With the counter at zero. -/
theorem ref_counter : after (hostOps0 (F := Ideal)) U (Proc.devRef .tc main_v82_3) = constantI S_ 32 0#32 := by
  after_reads_simp
  rfl

/-- With the running sum at zero. -/
theorem ref_zero : after (hostOps0 (F := Ideal)) U (Proc.devRef .tc main_v82_4)
    = broadcastInDim S2048x2048 ![] bcast_S_S2048x2048 (constant (F := Ideal) S_ .f32 0x00000000#32) := by
  after_reads_simp
  rfl

end

end Cert.Terms

end
-- ==== Proof.ReferenceValue.lean ====
/-
  THE REFERENCE'S LOOP: after `k` trips the running sum at a row and key is the sum of the first `k` heads' terms.
-/
module

public import Idealize.ShloMosaic.Lib.WordCmp
public import proofs.«01_k».proof.Proof.RefTerms
public import proofs.«01_k».proof.Proof.KernelValue

@[expose] public section

set_option maxRecDepth 16384

noncomputable section

namespace Cert.ReferenceIdeal.Scores

open Idealize.ShloMosaic Idealize.ShloMosaic.TcCoe Idealize.SL.Sem
open Idealize.ShloMosaic.StableHlo
open Cert.ReferenceIdeal Cert.ReferenceIdeal.Gen Cert.ReferenceIdeal.Facts Cert.ReferenceIdeal.Value Cert.Heads Cert.Rope Cert.Terms

/-- One trip adds the head's term at every row and key. -/
theorem step_at (X : Valuation τ sig (Elt Ideal)) (n : Fin 32)
    (hc : X (Proc.devRef .tc main_v82_3) = constantI S_ 32 (BitVec.ofNat 32 n.val))
    (A : FVec Ideal S32x2048x128 .f32) (hA : X (Proc.devRef .tc main_v82_0) = A)
    (W : FVec Ideal S32x2048 .f32) (hW : X (Proc.devRef .tc main_v82_1) = W)
    (K : FVec Ideal S2048x128 .f32) (hK : X (Proc.devRef .tc main_v82_2) = K)
    (Z : FVec Ideal S2048x2048 .f32) (hZ : X (Proc.devRef .tc main_v82_4) = Z) (t l : Fin 2048) :
    step_main_v82_4 X (ix2 t l)
      = (Z (ix2 t l) + W (ix2 n t) * max (∑ d : Fin 128, A (ix3 n t d) * K (ix2 l d)) 0 : EReal) := by
  unfold step_main_v82_4
  rw [hc, hA, hW, hK, hZ, id_eq]
  have h32 : n.val < 32 := n.isLt
  have hn : (BitVec.ofNat 32 n.val).toInt = n.val := WordCmp.toInt_ofNat_of_lt (by omega)
  have hs2 : S32x2048.Slices ![n.val, 0] S1x2048 := ⟨rfl, fun a => by
    fin_cases a
    · show n.val + 1 ≤ 32; omega
    · show 0 + 2048 ≤ 2048; omega⟩
  have hs3 : S32x2048x128.Slices ![n.val, 0, 0] S1x2048x128 := ⟨rfl, fun a => by
    fin_cases a
    · show n.val + 1 ≤ 32; omega
    · show 0 + 2048 ≤ 2048; omega
    · show 0 + 128 ≤ 128; omega⟩
  rw [WordCmp.dynamicSlice_eq_extract S1x2048 W _ sliceFits_S32x2048_S1x2048 ![n.val, 0] hs2 (by
      intro a; fin_cases a
      · exact hn
      · rfl),
    WordCmp.dynamicSlice_eq_extract S1x2048x128 A _ sliceFits_S32x2048x128_S1x2048x128 ![n.val, 0, 0] hs3 (by
      intro a; fin_cases a
      · exact hn
      · rfl
      · rfl)]
  pointwise

section
variable (E : Valuation τ sig (Elt Ideal)) (A : FVec Ideal S32x2048x128 .f32) (W : FVec Ideal S32x2048 .f32)
  (K : FVec Ideal S2048x128 .f32)

/-- The term one trip adds at a row and key: head `n`'s weight times the positive part of its product. -/
def addend (t l : Fin 2048) (n : ℕ) : EReal :=
  gated (fun h => W (ix2 h t)) (fun h d => A (ix3 h t d)) (fun d => K (ix2 l d)) n

/-- The loop after `k` trips: the stacked queries, weights and keys as at its entry, the counter at `k` and the running
    sum at the sum of the first `k` heads' terms. -/
theorem loop_at (hA : E (Proc.devRef .tc main_v82_0) = A) (hW : E (Proc.devRef .tc main_v82_1) = W)
    (hK : E (Proc.devRef .tc main_v82_2) = K) (hc : E (Proc.devRef .tc main_v82_3) = constantI S_ 32 0#32)
    (hZ : E (Proc.devRef .tc main_v82_4)
      = broadcastInDim S2048x2048 ![] bcast_S_S2048x2048 (constant (F := Ideal) S_ .f32 0x00000000#32)) :
    ∀ k, k ≤ 32 → (STEP^[k] E) (Proc.devRef .tc main_v82_0) = A ∧ (STEP^[k] E) (Proc.devRef .tc main_v82_1) = W
      ∧ (STEP^[k] E) (Proc.devRef .tc main_v82_2) = K
      ∧ (STEP^[k] E) (Proc.devRef .tc main_v82_3) = constantI S_ 32 (BitVec.ofNat 32 k)
      ∧ ∀ t l : Fin 2048, (STEP^[k] E) (Proc.devRef .tc main_v82_4) (ix2 t l) = total (addend A W K t l) k
  | 0, _ => by
    refine ⟨hA, hW, hK, hc, fun t l => ?_⟩
    refine (congrFun hZ (ix2 t l)).trans ?_
    pointwise
    rfl
  | k + 1, hk => by
    obtain ⟨eA, eW, eK, ec, ez⟩ := loop_at hA hW hK hc hZ k (by omega)
    rw [Function.iterate_succ_apply']
    refine ⟨(STEP_main_v82_0 _).trans eA, (STEP_main_v82_1 _).trans eW, (STEP_main_v82_2 _).trans eK, ?_, fun t l => ?_⟩
    · rw [STEP_main_v82_3]
      unfold step_main_v82_3
      rw [ec, id_eq]
      funext i
      show BitVec.ofNat 32 k + 1#32 = BitVec.ofNat 32 (k + 1)
      exact (BitVec.ofNat_add k 1).symm
    · have hv : (hd k).val = k := Nat.mod_eq_of_lt (by omega)
      rw [STEP_main_v82_4]
      refine (step_at _ (hd k) (by rw [hv]; exact ec) A eA W eW K eK _ rfl t l).trans ?_
      rw [ez t l]
      rfl

end

/-- The masked score by the positions themselves. -/
def byPosition (p : IVec S2048 32) (Z : FVec Ideal S2048x2048 .f32) : FVec Ideal S2048x2048 .f32 := fun i =>
  Scalar.select (Scalar.cmpi .sge (p (ix1 (i 0))) (p (ix1 (i 1)))) (Z i) (Ideal.ofBits .f32 0xFF800000#32)

/-- The operations after the loop take each row's best keys of the sum masked by the positions. -/
theorem out_eq (X : Valuation τ sig (Elt Ideal)) (p : IVec S2048 32) (hp : X (Proc.devRef .tc main_arg2) = p)
    (Z : FVec Ideal S2048x2048 .f32) (hZ : X (Proc.devRef .tc main_v82_4) = Z) :
    out_main_indices X = (Host.topK S2048x512 1 (FloatOps.cmpfTotal .gt) (byPosition p Z) sliceFits_S2048x2048_S2048x512).2 := by
  unfold out_main_indices
  rw [hp, hZ]
  refine congrArg (fun z => (Host.topK S2048x512 1 (FloatOps.cmpfTotal (F := Ideal) (φ := .f32) .gt) z sliceFits_S2048x2048_S2048x512).2) ?_
  funext i
  obtain ⟨t, l, rfl⟩ : ∃ (t : Fin 2048) (l : Fin 2048), i = ix2 t l := ⟨i 0, i 1, eq_ix2 i⟩
  pointwise
  rfl

variable (m : (ℓ : Loc nD τ sig) → Buf (Elt Ideal) ℓ)

/-- The loop's entry is what the host line before it leaves of the launch memory. -/
theorem entry_eq (c : Dev nD) : entryContents preI m c = after (hostOps0 (F := Ideal)) (launchContents m c) := by
  simp only [entryContents, afterL_cons, afterL_nil]

/-- The masked scores of device `c`'s arguments: minus infinity where the key's position is past the row's. -/
def scores (c : Dev nD) : FVec Ideal S2048x2048 .f32 := fun i =>
  Scalar.select (Scalar.cmpi .sge (m ((c : Thread nD τ).loc main_arg2) (ix1 (i 0))) (m ((c : Thread nD τ).loc main_arg2) (ix1 (i 1))))
    (total (scoreTerm (queries (m ((c : Thread nD τ).loc main_arg1)) (m ((c : Thread nD τ).loc main_arg3)))
      (keys (m ((c : Thread nD τ).loc main_arg0)) (m ((c : Thread nD τ).loc main_arg4))
        (m ((c : Thread nD τ).loc main_arg5)) (m ((c : Thread nD τ).loc main_arg6)))
      (cosines (m ((c : Thread nD τ).loc main_arg2))) (sines (m ((c : Thread nD τ).loc main_arg2)))
      (m ((c : Thread nD τ).loc main_arg0)) (m ((c : Thread nD τ).loc main_arg7)) (i 0) (i 1)) 32)
    (Ideal.ofBits .f32 0xFF800000#32)

/-- The term a trip adds over the reference's stacked arrays is the head's term of the score. -/
theorem addend_eq (q : FVec Ideal S2048x4096 .f32) (k : FVec Ideal S2048x128 .f32) (c s : FVec Ideal S2048x32 .f32)
    (a0 : FVec Ideal S2048x2048 .f32) (a7 : FVec Ideal S2048x32 .f32) (t l : Fin 2048) (n : ℕ) :
    addend (refQueries q c s) (refWeights a0 a7) (refKeys k c s) t l n = scoreTerm q k c s a0 a7 t l n := by
  unfold addend scoreTerm
  have ew : (fun h => refWeights a0 a7 (ix2 h t)) = weight a0 a7 t := funext fun h => refWeights_at a0 a7 h t
  have eq : (fun (h : Fin 32) (d : Fin 128) => refQueries q c s (ix3 h t d))
      = fun h d => rot (fun e => q (ix2 t (lane h e))) (fun e => c (ix2 t e)) (fun e => s (ix2 t e)) d :=
    funext fun h => funext fun d => refQueries_at q c s h t d
  have ek : (fun (d : Fin 128) => refKeys k c s (ix2 l d))
      = fun d => rot (fun e => k (ix2 l e)) (fun e => c (ix2 l e)) (fun e => s (ix2 l e)) d :=
    funext fun d => refKeys_at k c s l d
  rw [ew, eq, ek]

/-- The reference's returned indices are each row's best keys of its masked scores. -/
theorem indices (c : Dev nD) : out_main_indices (STEP^[32] (entryContents preI m c))
    = (Host.topK S2048x512 1 (FloatOps.cmpfTotal .gt) (scores m c) sliceFits_S2048x2048_S2048x512).2 := by
  have hA : entryContents preI m c (Proc.devRef .tc main_v82_0)
      = refQueries (queries (m ((c : Thread nD τ).loc main_arg1)) (m ((c : Thread nD τ).loc main_arg3)))
          (cosines (m ((c : Thread nD τ).loc main_arg2))) (sines (m ((c : Thread nD τ).loc main_arg2))) :=
    (congrFun (entry_eq m c) _).trans (ref_queries _)
  have hW : entryContents preI m c (Proc.devRef .tc main_v82_1)
      = refWeights (m ((c : Thread nD τ).loc main_arg0)) (m ((c : Thread nD τ).loc main_arg7)) :=
    (congrFun (entry_eq m c) _).trans (ref_weights _)
  have hK : entryContents preI m c (Proc.devRef .tc main_v82_2)
      = refKeys (keys (m ((c : Thread nD τ).loc main_arg0)) (m ((c : Thread nD τ).loc main_arg4))
          (m ((c : Thread nD τ).loc main_arg5)) (m ((c : Thread nD τ).loc main_arg6)))
          (cosines (m ((c : Thread nD τ).loc main_arg2))) (sines (m ((c : Thread nD τ).loc main_arg2))) :=
    (congrFun (entry_eq m c) _).trans (ref_keys _)
  have hc : entryContents preI m c (Proc.devRef .tc main_v82_3) = constantI S_ 32 0#32 :=
    (congrFun (entry_eq m c) _).trans (ref_counter _)
  have hZ : entryContents preI m c (Proc.devRef .tc main_v82_4)
      = broadcastInDim S2048x2048 ![] bcast_S_S2048x2048 (constant (F := Ideal) S_ .f32 0x00000000#32) :=
    (congrFun (entry_eq m c) _).trans (ref_zero _)
  have L := (loop_at (entryContents preI m c) _ _ _ hA hW hK hc hZ 32 (le_refl 32)).2.2.2.2
  rw [out_eq _ _ (iter_main_arg2 m c 32) _ rfl]
  refine congrArg (fun z => (Host.topK S2048x512 1 (FloatOps.cmpfTotal (F := Ideal) (φ := .f32) .gt) z sliceFits_S2048x2048_S2048x512).2) ?_
  funext i
  obtain ⟨t, l, rfl⟩ : ∃ (t : Fin 2048) (l : Fin 2048), i = ix2 t l := ⟨i 0, i 1, eq_ix2 i⟩
  unfold byPosition scores
  refine congr (congrArg (Scalar.select _) ?_) rfl
  refine (L t l).trans (total_congr _ _ 32 fun n _ => ?_)
  exact addend_eq _ _ _ _ _ _ t l n

end Cert.ReferenceIdeal.Scores
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Mask
public import proofs.«01_k».proof.Proof.KernelRun
public import proofs.«01_k».proof.Proof.ReferenceValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem
open Cert.Heads Cert.Terms

/-- The reference's run ends with the arguments unchanged and, there being no counter, every counter at zero. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Where the positions increase and the arguments agree, the reference's masked scores are the kernel's. -/
theorem scores_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_increasing (hPre_increasing := Cert.Pre_increasing.facts) m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Scores.scores m' c = Cert.KernelIdeal.Scores.scores m c := by
  rw [Cert.KernelIdeal.Scores.scores_eq]
  unfold Cert.ReferenceIdeal.Scores.scores logits
  rw [h0, h1, h2, h3, h4, h5, h6, h7]
  funext i
  refine congrFun (congrFun (congrArg Scalar.select ?_) _) _
  exact Cert.Pre_increasing.cmp_eq
    (fun z => (m ((c.tc : Thread Cert.KernelIdeal.nD Cert.KernelIdeal.τ).loc Cert.KernelIdeal.main_arg2)) (ix1 z))
    (fun n hn => Cert.Pre_increasing.next_lt (hF := Cert.Pre_increasing.facts) _ _ _ _ _ _ _ _ (hpre c) n hn) (i 0) (i 1)

/-- The value claim: where the positions increase strictly, both programs end with the same indices. -/
theorem value : Cert.algebraic_KernelIdeal_ReferenceIdeal_pre_increasing (hKernelIdeal := Cert.KernelIdeal.Gen.facts)
    (hReferenceIdeal := Cert.ReferenceIdeal.Gen.facts) (hPre_increasing := Cert.Pre_increasing.facts) := by
  intro m ρ m' ρ' hpre hagree
  refine ⟨fun c => Cert.KernelIdeal.Scores.best (Cert.KernelIdeal.Scores.scores m c), Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Scores.indices, scores_agree m m' hpre c h0 h1 h2 h3 h4 h5 h6 h7]
  rfl

/-- Everything claimed. -/
theorem claim : Cert.Claim :=
  ⟨Cert.Kernel.Gen.facts, Cert.KernelIdeal.Gen.facts, Cert.ReferenceIdeal.Gen.facts, Cert.Pre_increasing.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    trivial,
    value⟩

end Cert.Proof

end
